-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1)
      ∧ r.2.mem ((c.tc : Thread Cert.DownDw.nD Cert.DownDw.τ).loc Cert.DownDw.main_arg2) = m ((c.tc : Thread Cert.DownDw.nD Cert.DownDw.τ).loc Cert.DownDw.main_arg2))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
      ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1)
      ∧ r.2.mem ((c.tc : Thread Cert.DownDwRefIdeal.nD Cert.DownDwRefIdeal.τ).loc Cert.DownDwRefIdeal.main_arg2) = m ((c.tc : Thread Cert.DownDwRefIdeal.nD Cert.DownDwRefIdeal.τ).loc Cert.DownDwRefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1)
      ∧ r.2.mem ((c.tc : Thread Cert.OutDx.nD Cert.OutDx.τ).loc Cert.OutDx.main_arg2) = m ((c.tc : Thread Cert.OutDx.nD Cert.OutDx.τ).loc Cert.OutDx.main_arg2))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
      ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1)
      ∧ r.2.mem ((c.tc : Thread Cert.OutDxRefIdeal.nD Cert.OutDxRefIdeal.τ).loc Cert.OutDxRefIdeal.main_arg2) = m ((c.tc : Thread Cert.OutDxRefIdeal.nD Cert.OutDxRefIdeal.τ).loc Cert.OutDxRefIdeal.main_arg2))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1)
      ∧ r.2.mem ((c.tc : Thread Cert.OutDw.nD Cert.OutDw.τ).loc Cert.OutDw.main_arg2) = m ((c.tc : Thread Cert.OutDw.nD Cert.OutDw.τ).loc Cert.OutDw.main_arg2))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
      ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1)
      ∧ r.2.mem ((c.tc : Thread Cert.OutDwRefIdeal.nD Cert.OutDwRefIdeal.τ).loc Cert.OutDwRefIdeal.main_arg2) = m ((c.tc : Thread Cert.OutDwRefIdeal.nD Cert.OutDwRefIdeal.τ).loc Cert.OutDwRefIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_v67) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v2) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v0) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)) →
    ∃ (v0 : (c : Dev Cert.UpDxIdeal.nD) → Buf (Elt Ideal) ((c.tc : Thread Cert.UpDxIdeal.nD Cert.UpDxIdeal.τ).loc Cert.UpDxIdeal.main_v2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v2) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v3) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v2)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v2) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v2) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v2)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v2) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v0) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v2)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v2) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)
      ∧ m' ((c.tc : Thread Cert.DownDwRefIdeal.nD Cert.DownDwRefIdeal.τ).loc Cert.DownDwRefIdeal.main_arg2) = m ((c.tc : Thread Cert.DownDwIdeal.nD Cert.DownDwIdeal.τ).loc Cert.DownDwIdeal.main_arg2)) →
    ∃ (v0 : (c : Dev Cert.DownDwIdeal.nD) → Buf (Elt Ideal) ((c.tc : Thread Cert.DownDwIdeal.nD Cert.DownDwIdeal.τ).loc Cert.DownDwIdeal.main_v2)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v2) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1)
          ∧ r.2.mem ((c.tc : Thread Cert.DownDwIdeal.nD Cert.DownDwIdeal.τ).loc Cert.DownDwIdeal.main_arg2) = m ((c.tc : Thread Cert.DownDwIdeal.nD Cert.DownDwIdeal.τ).loc Cert.DownDwIdeal.main_arg2))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v2) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1)
          ∧ r.2.mem ((c.tc : Thread Cert.DownDwRefIdeal.nD Cert.DownDwRefIdeal.τ).loc Cert.DownDwRefIdeal.main_arg2) = m' ((c.tc : Thread Cert.DownDwRefIdeal.nD Cert.DownDwRefIdeal.τ).loc Cert.DownDwRefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v2)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v2) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v0) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)) →
    ∃ (v0 : (c : Dev Cert.InDxIdeal.nD) → Buf (Elt Ideal) ((c.tc : Thread Cert.InDxIdeal.nD Cert.InDxIdeal.τ).loc Cert.InDxIdeal.main_v2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v2) = v0 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v3) = v0 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v2)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v2) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v2) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)) →
    ∃ (v0 : (c : Dev Cert.OutIdeal.nD) → Buf (Elt Ideal) ((c.tc : Thread Cert.OutIdeal.nD Cert.OutIdeal.τ).loc Cert.OutIdeal.main_v2)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v2) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v0) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)
      ∧ m' ((c.tc : Thread Cert.OutDxRefIdeal.nD Cert.OutDxRefIdeal.τ).loc Cert.OutDxRefIdeal.main_arg2) = m ((c.tc : Thread Cert.OutDxIdeal.nD Cert.OutDxIdeal.τ).loc Cert.OutDxIdeal.main_arg2)) →
    ∃ (v0 : (c : Dev Cert.OutDxIdeal.nD) → Buf (Elt Ideal) ((c.tc : Thread Cert.OutDxIdeal.nD Cert.OutDxIdeal.τ).loc Cert.OutDxIdeal.main_v2)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v2) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1)
          ∧ r.2.mem ((c.tc : Thread Cert.OutDxIdeal.nD Cert.OutDxIdeal.τ).loc Cert.OutDxIdeal.main_arg2) = m ((c.tc : Thread Cert.OutDxIdeal.nD Cert.OutDxIdeal.τ).loc Cert.OutDxIdeal.main_arg2))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v3) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1)
          ∧ r.2.mem ((c.tc : Thread Cert.OutDxRefIdeal.nD Cert.OutDxRefIdeal.τ).loc Cert.OutDxRefIdeal.main_arg2) = m' ((c.tc : Thread Cert.OutDxRefIdeal.nD Cert.OutDxRefIdeal.τ).loc Cert.OutDxRefIdeal.main_arg2))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)
      ∧ m' ((c.tc : Thread Cert.OutDwRefIdeal.nD Cert.OutDwRefIdeal.τ).loc Cert.OutDwRefIdeal.main_arg2) = m ((c.tc : Thread Cert.OutDwIdeal.nD Cert.OutDwIdeal.τ).loc Cert.OutDwIdeal.main_arg2)) →
    ∃ (v0 : (c : Dev Cert.OutDwIdeal.nD) → Buf (Elt Ideal) ((c.tc : Thread Cert.OutDwIdeal.nD Cert.OutDwIdeal.τ).loc Cert.OutDwIdeal.main_v2)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v2) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1)
          ∧ r.2.mem ((c.tc : Thread Cert.OutDwIdeal.nD Cert.OutDwIdeal.τ).loc Cert.OutDwIdeal.main_arg2) = m ((c.tc : Thread Cert.OutDwIdeal.nD Cert.OutDwIdeal.τ).loc Cert.OutDwIdeal.main_arg2))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v2) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1)
          ∧ r.2.mem ((c.tc : Thread Cert.OutDwRefIdeal.nD Cert.OutDwRefIdeal.τ).loc Cert.OutDwRefIdeal.main_arg2) = m' ((c.tc : Thread Cert.OutDwRefIdeal.nD Cert.OutDwRefIdeal.τ).loc Cert.OutDwRefIdeal.main_arg2))

def Claim : Prop :=
  ∃ (hKernel : Cert.Kernel.Facts) (hKernelIdeal : Cert.KernelIdeal.Facts) (hReferenceIdeal : Cert.ReferenceIdeal.Facts) (hUp : Cert.Up.Facts) (hUpIdeal : Cert.UpIdeal.Facts) (hUpRefIdeal : Cert.UpRefIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDown : Cert.Down.Facts) (hDownIdeal : Cert.DownIdeal.Facts) (hDownRefIdeal : Cert.DownRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hIn : Cert.In.Facts) (hInIdeal : Cert.InIdeal.Facts) (hInRefIdeal : Cert.InRefIdeal.Facts) (hInDx : Cert.InDx.Facts) (hInDxIdeal : Cert.InDxIdeal.Facts) (hInDxRefIdeal : Cert.InDxRefIdeal.Facts) (hInDw : Cert.InDw.Facts) (hInDwIdeal : Cert.InDwIdeal.Facts) (hInDwRefIdeal : Cert.InDwRefIdeal.Facts) (hOut : Cert.Out.Facts) (hOutIdeal : Cert.OutIdeal.Facts) (hOutRefIdeal : Cert.OutRefIdeal.Facts) (hOutDx : Cert.OutDx.Facts) (hOutDxIdeal : Cert.OutDxIdeal.Facts) (hOutDxRefIdeal : Cert.OutDxRefIdeal.Facts) (hOutDw : Cert.OutDw.Facts) (hOutDwIdeal : Cert.OutDwIdeal.Facts) (hOutDwRefIdeal : Cert.OutDwRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Up (hUp := hUp)
    ∧ quiescent_UpIdeal (hUpIdeal := hUpIdeal)
    ∧ quiescent_UpRefIdeal (hUpRefIdeal := hUpRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Down (hDown := hDown)
    ∧ quiescent_DownIdeal (hDownIdeal := hDownIdeal)
    ∧ quiescent_DownRefIdeal (hDownRefIdeal := hDownRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_In (hIn := hIn)
    ∧ quiescent_InIdeal (hInIdeal := hInIdeal)
    ∧ quiescent_InRefIdeal (hInRefIdeal := hInRefIdeal)
    ∧ quiescent_InDx (hInDx := hInDx)
    ∧ quiescent_InDxIdeal (hInDxIdeal := hInDxIdeal)
    ∧ quiescent_InDxRefIdeal (hInDxRefIdeal := hInDxRefIdeal)
    ∧ quiescent_InDw (hInDw := hInDw)
    ∧ quiescent_InDwIdeal (hInDwIdeal := hInDwIdeal)
    ∧ quiescent_InDwRefIdeal (hInDwRefIdeal := hInDwRefIdeal)
    ∧ quiescent_Out (hOut := hOut)
    ∧ quiescent_OutIdeal (hOutIdeal := hOutIdeal)
    ∧ quiescent_OutRefIdeal (hOutRefIdeal := hOutRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Up_UpIdeal
    ∧ algebraic_UpIdeal_UpRefIdeal (hUpIdeal := hUpIdeal) (hUpRefIdeal := hUpRefIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_Down_DownIdeal
    ∧ algebraic_DownIdeal_DownRefIdeal (hDownIdeal := hDownIdeal) (hDownRefIdeal := hDownRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_In_InIdeal
    ∧ algebraic_InIdeal_InRefIdeal (hInIdeal := hInIdeal) (hInRefIdeal := hInRefIdeal)
    ∧ preserves_InDx_InDxIdeal
    ∧ algebraic_InDxIdeal_InDxRefIdeal (hInDxIdeal := hInDxIdeal) (hInDxRefIdeal := hInDxRefIdeal)
    ∧ preserves_InDw_InDwIdeal
    ∧ algebraic_InDwIdeal_InDwRefIdeal (hInDwIdeal := hInDwIdeal) (hInDwRefIdeal := hInDwRefIdeal)
    ∧ preserves_Out_OutIdeal
    ∧ algebraic_OutIdeal_OutRefIdeal (hOutIdeal := hOutIdeal) (hOutRefIdeal := hOutRefIdeal)
    ∧ preserves_OutDx_OutDxIdeal
    ∧ algebraic_OutDxIdeal_OutDxRefIdeal (hOutDxIdeal := hOutDxIdeal) (hOutDxRefIdeal := hOutDxRefIdeal)
    ∧ preserves_OutDw_OutDwIdeal
    ∧ algebraic_OutDwIdeal_OutDwRefIdeal (hOutDwIdeal := hOutDwIdeal) (hOutDwRefIdeal := hOutDwRefIdeal)
-- ==== Pre_finite.lean ====
abbrev S4096x4x96 : Shape := ⟨3, ![4096, 4, 96]⟩
abbrev S4096x4x64 : Shape := ⟨3, ![4096, 4, 64]⟩
abbrev S_ : Shape := ⟨0, ![]⟩

class Facts : Prop where
  bcast_S_S4096x4x96 : S_.BroadcastsInDim S4096x4x96 (![] : Fin 0 → Fin S4096x4x96.rank)
  reducesTo_S4096x4x96_S_d0_1_2 : S4096x4x96.ReducesTo [0, 1, 2] S_
  h_S_ : 0 < S_.numel
  bcast_S_S4096x4x64 : S_.BroadcastsInDim S4096x4x64 (![] : Fin 0 → Fin S4096x4x64.rank)
  reducesTo_S4096x4x64_S_d0_1_2 : S4096x4x64.ReducesTo [0, 1, 2] S_

variable [Facts]

def fn_part1 {F : FTy → Type} [FloatOps F] (main_v8 : IVec S_ 1) (main_v12 : IVec S_ 1) (main_v15 : IVec S4096x4x64 1) (main_c_5 : IVec S_ 1) : IVec S_ 1 :=
  let main_v16 : IVec S_ 1 := (fun x v => Host.reduce IntOp.andi x v reducesTo_S4096x4x64_S_d0_1_2 h_S_) main_v15 main_c_5
  let main_v17 : IVec S_ 1 := andi main_v12 main_v16
  let main_v18 : IVec S_ 1 := andi main_v8 main_v17
  main_v18

def fn {F : FTy → Type} [FloatOps F] (main_arg0 : FVec F S4096x4x96 .f32) (main_arg1 : FVec F S4096x4x96 .f32) (main_arg2 : FVec F S4096x4x64 .f32) (main_arg3 : FVec F S4096x4x64 .f32) : IVec S_ 1 :=
  let main_v0 : FVec F S4096x4x96 .f32 := Host.absf main_arg0
  let main_cst : FVec F S_ .f32 := constant S_ .f32 0x7F800000#32
  let main_v1 : FVec F S4096x4x96 .f32 := broadcastInDim S4096x4x96 ![] bcast_S_S4096x4x96 main_cst
  let main_v2 : IVec S4096x4x96 1 := cmpf .olt main_v0 main_v1
  let main_c : IVec S_ 1 := constantI S_ 1 1#1
  let main_v3 : IVec S_ 1 := (fun x v => Host.reduce IntOp.andi x v reducesTo_S4096x4x96_S_d0_1_2 h_S_) main_v2 main_c
  let main_v4 : FVec F S4096x4x96 .f32 := Host.absf main_arg1
  let main_cst_0 : FVec F S_ .f32 := constant S_ .f32 0x7F800000#32
  let main_v5 : FVec F S4096x4x96 .f32 := broadcastInDim S4096x4x96 ![] bcast_S_S4096x4x96 main_cst_0
  let main_v6 : IVec S4096x4x96 1 := cmpf .olt main_v4 main_v5
  let main_c_1 : IVec S_ 1 := constantI S_ 1 1#1
  let main_v7 : IVec S_ 1 := (fun x v => Host.reduce IntOp.andi x v reducesTo_S4096x4x96_S_d0_1_2 h_S_) main_v6 main_c_1
  let main_v8 : IVec S_ 1 := andi main_v3 main_v7
  let main_v9 : FVec F S4096x4x64 .f32 := Host.absf main_arg2
  let main_cst_2 : FVec F S_ .f32 := constant S_ .f32 0x7F800000#32
  let main_v10 : FVec F S4096x4x64 .f32 := broadcastInDim S4096x4x64 ![] bcast_S_S4096x4x64 main_cst_2
  let main_v11 : IVec S4096x4x64 1 := cmpf .olt main_v9 main_v10
  let main_c_3 : IVec S_ 1 := constantI S_ 1 1#1
  let main_v12 : IVec S_ 1 := (fun x v => Host.reduce IntOp.andi x v reducesTo_S4096x4x64_S_d0_1_2 h_S_) main_v11 main_c_3
  let main_v13 : FVec F S4096x4x64 .f32 := Host.absf main_arg3
  let main_cst_4 : FVec F S_ .f32 := constant S_ .f32 0x7F800000#32
  let main_v14 : FVec F S4096x4x64 .f32 := broadcastInDim S4096x4x64 ![] bcast_S_S4096x4x64 main_cst_4
  let main_v15 : IVec S4096x4x64 1 := cmpf .olt main_v13 main_v14
  let main_c_5 : IVec S_ 1 := constantI S_ 1 1#1
  fn_part1 (F := F) main_v8 main_v12 main_v15 main_c_5
-- ==== Kernel.lean ====
abbrev S4096x4x96 : Shape := ⟨3, ![4096, 4, 96]⟩
abbrev S4096x4x64 : Shape := ⟨3, ![4096, 4, 64]⟩
abbrev S4096 : Shape := ⟨1, ![4096]⟩
abbrev S4x4096x4096 : Shape := ⟨3, ![4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x64x4096 : Shape := ⟨3, ![4, 64, 4096]⟩
abbrev S4x4096x96 : Shape := ⟨3, ![4, 4096, 96]⟩
abbrev S4x4096x128 : Shape := ⟨3, ![4, 4096, 128]⟩
abbrev S4x4096x64 : Shape := ⟨3, ![4, 4096, 64]⟩
abbrev S1x4096x128 : Shape := ⟨3, ![1, 4096, 128]⟩
abbrev S1x1024x128 : Shape := ⟨3, ![1, 1024, 128]⟩
abbrev S1x1024x64 : Shape := ⟨3, ![1, 1024, 64]⟩
abbrev S1x4096x64 : Shape := ⟨3, ![1, 4096, 64]⟩
abbrev S1x4096x1 : Shape := ⟨3, ![1, 4096, 1]⟩
abbrev S1024x128 : Shape := ⟨2, ![1024, 128]⟩
abbrev S1024x64 : Shape := ⟨2, ![1024, 64]⟩
abbrev S1024x1024 : Shape := ⟨2, ![1024, 1024]⟩
abbrev S1x1024x1 : Shape := ⟨3, ![1, 1024, 1]⟩
abbrev S1024x1 : Shape := ⟨2, ![1024, 1]⟩
abbrev S1024 : Shape := ⟨1, ![1024]⟩

abbrev nBuf : Space → Nat
  | .hbm => 87
  | .vmem => 18
  | .smem => 0
  | _ => 0

abbrev bufTy : (tb : Table) → Fin (tcTables nBuf tb) → BufTy
  | .hbm, ⟨0, _⟩ => ⟨S4096x4x96, .f32⟩
  | .hbm, ⟨1, _⟩ => ⟨S4096x4x96, .f32⟩
  | .hbm, ⟨2, _⟩ => ⟨S4096x4x64, .f32⟩
  | .hbm, ⟨3, _⟩ => ⟨S4096x4x64, .f32⟩
  | .hbm, ⟨4, _⟩ => ⟨S4096, .i32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4x4096x4096, .i1⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096, .f32⟩
  | .hbm, ⟨21, _⟩ => ⟨S_, .f32⟩
  | .hbm, ⟨22, _⟩ => ⟨S4x4096, .f32⟩
  | .hbm, ⟨23, _⟩ => ⟨S4x4096, .f32⟩
  | .hbm, ⟨24, _⟩ => ⟨S4x4096x1, .f32⟩
  | .hbm, ⟨25, _⟩ => ⟨S4x4096x4096, .f32⟩
  | .hbm, ⟨26, _⟩ => ⟨S4x4096x4096, .f32⟩
  | .hbm, ⟨27, _⟩ => ⟨S4x4096x4096, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S4x4096x4096, .f32⟩
  | .hbm, ⟨32, _⟩ => ⟨S4x4096x4096, .f32⟩
  | .hbm, ⟨33, _⟩ => ⟨S4x64x4096, .f32⟩
  | .hbm, ⟨34, _⟩ => ⟨S4096x4x64, .f32⟩
  | .hbm, ⟨35, _⟩ => ⟨S4096, .i32⟩
  | .hbm, ⟨36, _⟩ => ⟨S4x4096x4096, .f32⟩
  | .hbm, ⟨37, _⟩ => ⟨S_, .f32⟩
  | .hbm, ⟨38, _⟩ => ⟨S4x4096x4096, .f32⟩
  | .hbm, ⟨39, _⟩ => ⟨S4x4096x4096, .f32⟩
  | .hbm, ⟨40, _⟩ => ⟨S1x4096, .i32⟩
  | .hbm, ⟨41, _⟩ => ⟨S4096x1, .i32⟩
  | .hbm, ⟨42, _⟩ => ⟨S4096x4096, .i32⟩
  | .hbm, ⟨43, _⟩ => ⟨S4096x4096, .i32⟩
  | .hbm, ⟨44, _⟩ => ⟨S4096x4096, .i1⟩
  | .hbm, ⟨45, _⟩ => ⟨S_, .f32⟩
  | .hbm, ⟨46, _⟩ => ⟨S_, .f32⟩
  | .hbm, ⟨47, _⟩ => ⟨S4x4096x4096, .i1⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S4x4096x4096, .f32⟩
  | .hbm, ⟨54, _⟩ => ⟨S4x4096x4096, .f32⟩
  | .hbm, ⟨55, _⟩ => ⟨S4x4096x4096, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S4x4096x1, .f32⟩
  | .hbm, ⟨60, _⟩ => ⟨S4x4096x1, .f32⟩
  | .hbm, ⟨61, _⟩ => ⟨S4x4096x96, .f32⟩
  | .hbm, ⟨62, _⟩ => ⟨S_, .i32⟩
  | .hbm, ⟨63, _⟩ => ⟨S_, .f32⟩
  | .hbm, ⟨64, _⟩ => ⟨S4x4096x128, .f32⟩
  | .hbm, ⟨65, _⟩ => ⟨S4x4096x128, .bf16⟩
  | .hbm, ⟨66, _⟩ => ⟨S4x4096x96, .f32⟩
  | .hbm, ⟨67, _⟩ => ⟨S_, .i32⟩
  | .hbm, ⟨68, _⟩ => ⟨S_, .f32⟩
  | .hbm, ⟨69, _⟩ => ⟨S4x4096x128, .f32⟩
  | .hbm, ⟨70, _⟩ => ⟨S4x4096x128, .bf16⟩
  | .hbm, ⟨71, _⟩ => ⟨S4x4096x64, .f32⟩
  | .hbm, ⟨72, _⟩ => ⟨S_, .i32⟩
  | .hbm, ⟨73, _⟩ => ⟨S_, .f32⟩
  | .hbm, ⟨74, _⟩ => ⟨S4x4096x64, .f32⟩
  | .hbm, ⟨75, _⟩ => ⟨S4x4096x64, .bf16⟩
  | .hbm, ⟨76, _⟩ => ⟨S4x4096x64, .f32⟩
  | .hbm, ⟨77, _⟩ => ⟨S_, .i32⟩
  | .hbm, ⟨78, _⟩ => ⟨S_, .f32⟩
  | .hbm, ⟨79, _⟩ => ⟨S4x4096x64, .f32⟩
  | .hbm, ⟨80, _⟩ => ⟨S4x4096x64, .f32⟩
  | .hbm, ⟨81, _⟩ => ⟨S_, .i32⟩
  | .hbm, ⟨82, _⟩ => ⟨S_, .f32⟩
  | .hbm, ⟨83, _⟩ => ⟨S4x4096x64, .f32⟩
  | .hbm, ⟨84, _⟩ => ⟨S4x4096x128, .f32⟩
  | .hbm, ⟨85, _⟩ => ⟨S4x4096x128, .f32⟩
  | .hbm, ⟨86, _⟩ => ⟨S4x4096x64, .f32⟩
  | .local _ .vmem, ⟨0, _⟩ => ⟨S1x4096x128, .bf16⟩
  | .local _ .vmem, ⟨1, _⟩ => ⟨S1x4096x128, .bf16⟩
  | .local _ .vmem, ⟨2, _⟩ => ⟨S1x1024x128, .bf16⟩
  | .local _ .vmem, ⟨3, _⟩ => ⟨S1x1024x128, .bf16⟩
  | .local _ .vmem, ⟨4, _⟩ => ⟨S1x1024x64, .bf16⟩
  | .local _ .vmem, ⟨5, _⟩ => ⟨S1x1024x64, .bf16⟩
  | .local _ .vmem, ⟨6, _⟩ => ⟨S1x4096x64, .f32⟩
  | .local _ .vmem, ⟨7, _⟩ => ⟨S1x4096x64, .f32⟩
  | .local _ .vmem, ⟨8, _⟩ => ⟨S1x4096x1, .f32⟩
  | .local _ .vmem, ⟨9, _⟩ => ⟨S1x4096x1, .f32⟩
  | .local _ .vmem, ⟨10, _⟩ => ⟨S1x4096x64, .f32⟩
  | .local _ .vmem, ⟨11, _⟩ => ⟨S1x4096x64, .f32⟩
  | .local _ .vmem, ⟨12, _⟩ => ⟨S1x4096x128, .f32⟩
  | .local _ .vmem, ⟨13, _⟩ => ⟨S1x4096x128, .f32⟩
  | .local _ .vmem, ⟨14, _⟩ => ⟨S1x1024x128, .f32⟩
  | .local _ .vmem, ⟨15, _⟩ => ⟨S1x1024x128, .f32⟩
  | .local _ .vmem, ⟨16, _⟩ => ⟨S1x1024x64, .f32⟩
  | .local _ .vmem, ⟨17, _⟩ => ⟨S1x1024x64, .f32⟩
  | _, _ => ⟨S4096x4x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c : Ref sig .tc := ⟨.hbm, 62, rfl⟩
abbrev main_call2_v0 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_8 : Ref sig .tc := ⟨.hbm, 67, rfl⟩
abbrev main_call3_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_call4_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_c_10 : Ref sig .tc := ⟨.hbm, 77, rfl⟩
abbrev main_call5_v0 : Ref sig .tc := ⟨.hbm, 78, rfl⟩
abbrev main_v52 : Ref sig .tc := ⟨.hbm, 79, rfl⟩
abbrev main_v53 : Ref sig .tc := ⟨.hbm, 80, rfl⟩
abbrev main_c_11 : Ref sig .tc := ⟨.hbm, 81, rfl⟩
abbrev main_call6_v0 : Ref sig .tc := ⟨.hbm, 82, rfl⟩
abbrev main_v54 : Ref sig .tc := ⟨.hbm, 83, rfl⟩
abbrev main_v55_0 : Ref sig .tc := ⟨.hbm, 84, rfl⟩
abbrev main_v55_1 : Ref sig .tc := ⟨.hbm, 85, rfl⟩
abbrev main_v55_2 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def k0_mult1 (i : grid0.Coords) : BitVec 32 :=
  let arg1 : BitVec 32 := BitVec.ofNat 32 (i 1).val
  let c1024_i32 : BitVec 32 := 1024#32
  let v11 : BitVec 32 := Scalar.muli arg1 c1024_i32
  v11
def k0_off1 (i : grid0.Coords) : Fin 3 → Nat :=
  let c0_13 : Index := 0#32
  let arg1 : BitVec 32 := BitVec.ofNat 32 (i 1).val
  let c1024_i32 : BitVec 32 := 1024#32
  let v11 : BitVec 32 := Scalar.muli arg1 c1024_i32
  let v12 : BitVec 32 := v11
  let v13 : Index := Scalar.indexCast v12
  let c0_14 : Index := 0#32
  ![0, v13.toNat, 0]
def k0_off2 (i : grid0.Coords) : Fin 3 → Nat :=
  let c0_15 : Index := 0#32
  let arg1 : BitVec 32 := BitVec.ofNat 32 (i 1).val
  let c1024_i32 : BitVec 32 := 1024#32
  let v11 : BitVec 32 := Scalar.muli arg1 c1024_i32
  let v12 : BitVec 32 := v11
  let v16 : Index := Scalar.indexCast v12
  let c0_16 : Index := 0#32
  ![0, v16.toNat, 0]
def k0_off3 (i : grid0.Coords) : Fin 3 → Nat :=
  let c0_19 : Index := 0#32
  let arg1 : BitVec 32 := BitVec.ofNat 32 (i 1).val
  let c1024_i32 : BitVec 32 := 1024#32
  let v11 : BitVec 32 := Scalar.muli arg1 c1024_i32
  let v12 : BitVec 32 := v11
  let v22 : Index := Scalar.indexCast v12
  let c0_20 : Index := 0#32
  ![0, v22.toNat, 0]
@[reducible] def k0_t1_loop (i : grid0.Coords) : Scf.Loop 32 :=
  let arg1 : BitVec 32 := BitVec.ofNat 32 (i 1).val
  let c1_i32 : BitVec 32 := 1#32
  let v79 : BitVec 32 := Scalar.addi arg1 c1_i32
  let c4_i32 : BitVec 32 := 4#32
  let v80 : BitVec 32 := Scalar.subi c4_i32 v79
  let c1_i32_49 : BitVec 32 := 1#32
  let v82 : BitVec 32 := Scalar.divsi v80 c1_i32_49
  let v83 : BitVec 32 := Scalar.muli v82 c1_i32_49
  let v84 : BitVec 32 := Scalar.addi v79 v83
  let c1_i32_50 : BitVec 32 := 1#32
  ⟨v79, v84, c1_i32_50⟩
def k0_mult2 (i : grid0.Coords) (k0_t1 : Fin (k0_t1_loop i).trips) : BitVec 32 :=
  let arg1 : BitVec 32 := BitVec.ofNat 32 (i 1).val
  let c1_i32 : BitVec 32 := 1#32
  let v79 : BitVec 32 := Scalar.addi arg1 c1_i32
  let c1_i32_50 : BitVec 32 := 1#32
  let arg11 : BitVec 32 := Scf.iv v79 c1_i32_50 k0_t1
  let c1024_i32_52 : BitVec 32 := 1024#32
  let v85 : BitVec 32 := Scalar.muli arg11 c1024_i32_52
  v85
def k0_off4 (i : grid0.Coords) (k0_t1 : Fin (k0_t1_loop i).trips) : Fin 3 → Nat :=
  let c0_53 : Index := 0#32
  let arg1 : BitVec 32 := BitVec.ofNat 32 (i 1).val
  let c1_i32 : BitVec 32 := 1#32
  let v79 : BitVec 32 := Scalar.addi arg1 c1_i32
  let c1_i32_50 : BitVec 32 := 1#32
  let arg11 : BitVec 32 := Scf.iv v79 c1_i32_50 k0_t1
  let c1024_i32_52 : BitVec 32 := 1024#32
  let v85 : BitVec 32 := Scalar.muli arg11 c1024_i32_52
  let v86 : BitVec 32 := v85
  let v87 : Index := Scalar.indexCast v86
  let c0_54 : Index := 0#32
  ![0, v87.toNat, 0]
def k0_off5 (i : grid0.Coords) (k0_t1 : Fin (k0_t1_loop i).trips) : Fin 3 → Nat :=
  let c0_55 : Index := 0#32
  let arg1 : BitVec 32 := BitVec.ofNat 32 (i 1).val
  let c1_i32 : BitVec 32 := 1#32
  let v79 : BitVec 32 := Scalar.addi arg1 c1_i32
  let c1_i32_50 : BitVec 32 := 1#32
  let arg11 : BitVec 32 := Scf.iv v79 c1_i32_50 k0_t1
  let c1024_i32_52 : BitVec 32 := 1024#32
  let v85 : BitVec 32 := Scalar.muli arg11 c1024_i32_52
  let v86 : BitVec 32 := v85
  let v90 : Index := Scalar.indexCast v86
  let c0_56 : Index := 0#32
  ![0, v90.toNat, 0]
def k0_off6 (i : grid0.Coords) (k0_t1 : Fin (k0_t1_loop i).trips) : Fin 3 → Nat :=
  let c0_59 : Index := 0#32
  let arg1 : BitVec 32 := BitVec.ofNat 32 (i 1).val
  let c1_i32 : BitVec 32 := 1#32
  let v79 : BitVec 32 := Scalar.addi arg1 c1_i32
  let c1_i32_50 : BitVec 32 := 1#32
  let arg11 : BitVec 32 := Scf.iv v79 c1_i32_50 k0_t1
  let c1024_i32_52 : BitVec 32 := 1024#32
  let v85 : BitVec 32 := Scalar.muli arg11 c1024_i32_52
  let v86 : BitVec 32 := v85
  let v96 : Index := Scalar.indexCast v86
  let c0_60 : Index := 0#32
  ![0, v96.toNat, 0]
@[reducible] def k0_t2_loop (i : grid0.Coords) : Scf.Loop 32 :=
  let arg1 : BitVec 32 := BitVec.ofNat 32 (i 1).val
  let c1_i32 : BitVec 32 := 1#32
  let v79 : BitVec 32 := Scalar.addi arg1 c1_i32
  let c4_i32 : BitVec 32 := 4#32
  let v80 : BitVec 32 := Scalar.subi c4_i32 v79
  let c1_i32_49 : BitVec 32 := 1#32
  let v82 : BitVec 32 := Scalar.divsi v80 c1_i32_49
  let v83 : BitVec 32 := Scalar.muli v82 c1_i32_49
  let v84 : BitVec 32 := Scalar.addi v79 v83
  let v81 : BitVec 32 := Scalar.addi v79 v80
  let c1_i32_51 : BitVec 32 := 1#32
  ⟨v84, v81, c1_i32_51⟩
def k0_mult3 (i : grid0.Coords) (k0_t2 : Fin (k0_t2_loop i).trips) : BitVec 32 :=
  let arg1 : BitVec 32 := BitVec.ofNat 32 (i 1).val
  let c1_i32 : BitVec 32 := 1#32
  let v79 : BitVec 32 := Scalar.addi arg1 c1_i32
  let c4_i32 : BitVec 32 := 4#32
  let v80 : BitVec 32 := Scalar.subi c4_i32 v79
  let c1_i32_49 : BitVec 32 := 1#32
  let v82 : BitVec 32 := Scalar.divsi v80 c1_i32_49
  let v83 : BitVec 32 := Scalar.muli v82 c1_i32_49
  let v84 : BitVec 32 := Scalar.addi v79 v83
  let c1_i32_51 : BitVec 32 := 1#32
  let arg11 : BitVec 32 := Scf.iv v84 c1_i32_51 k0_t2
  let c1024_i32_52 : BitVec 32 := 1024#32
  let v85 : BitVec 32 := Scalar.muli arg11 c1024_i32_52
  v85
def k0_off7 (i : grid0.Coords) (k0_t2 : Fin (k0_t2_loop i).trips) : Fin 3 → Nat :=
  let c0_53 : Index := 0#32
  let arg1 : BitVec 32 := BitVec.ofNat 32 (i 1).val
  let c1_i32 : BitVec 32 := 1#32
  let v79 : BitVec 32 := Scalar.addi arg1 c1_i32
  let c4_i32 : BitVec 32 := 4#32
  let v80 : BitVec 32 := Scalar.subi c4_i32 v79
  let c1_i32_49 : BitVec 32 := 1#32
  let v82 : BitVec 32 := Scalar.divsi v80 c1_i32_49
  let v83 : BitVec 32 := Scalar.muli v82 c1_i32_49
  let v84 : BitVec 32 := Scalar.addi v79 v83
  let c1_i32_51 : BitVec 32 := 1#32
  let arg11 : BitVec 32 := Scf.iv v84 c1_i32_51 k0_t2
  let c1024_i32_52 : BitVec 32 := 1024#32
  let v85 : BitVec 32 := Scalar.muli arg11 c1024_i32_52
  let v86 : BitVec 32 := v85
  let v87 : Index := Scalar.indexCast v86
  let c0_54 : Index := 0#32
  ![0, v87.toNat, 0]
def k0_off8 (i : grid0.Coords) (k0_t2 : Fin (k0_t2_loop i).trips) : Fin 3 → Nat :=
  let c0_55 : Index := 0#32
  let arg1 : BitVec 32 := BitVec.ofNat 32 (i 1).val
  let c1_i32 : BitVec 32 := 1#32
  let v79 : BitVec 32 := Scalar.addi arg1 c1_i32
  let c4_i32 : BitVec 32 := 4#32
  let v80 : BitVec 32 := Scalar.subi c4_i32 v79
  let c1_i32_49 : BitVec 32 := 1#32
  let v82 : BitVec 32 := Scalar.divsi v80 c1_i32_49
  let v83 : BitVec 32 := Scalar.muli v82 c1_i32_49
  let v84 : BitVec 32 := Scalar.addi v79 v83
  let c1_i32_51 : BitVec 32 := 1#32
  let arg11 : BitVec 32 := Scf.iv v84 c1_i32_51 k0_t2
  let c1024_i32_52 : BitVec 32 := 1024#32
  let v85 : BitVec 32 := Scalar.muli arg11 c1024_i32_52
  let v86 : BitVec 32 := v85
  let v90 : Index := Scalar.indexCast v86
  let c0_56 : Index := 0#32
  ![0, v90.toNat, 0]
def k0_off9 (i : grid0.Coords) (k0_t2 : Fin (k0_t2_loop i).trips) : Fin 3 → Nat :=
  let c0_59 : Index := 0#32
  let arg1 : BitVec 32 := BitVec.ofNat 32 (i 1).val
  let c1_i32 : BitVec 32 := 1#32
  let v79 : BitVec 32 := Scalar.addi arg1 c1_i32
  let c4_i32 : BitVec 32 := 4#32
  let v80 : BitVec 32 := Scalar.subi c4_i32 v79
  let c1_i32_49 : BitVec 32 := 1#32
  let v82 : BitVec 32 := Scalar.divsi v80 c1_i32_49
  let v83 : BitVec 32 := Scalar.muli v82 c1_i32_49
  let v84 : BitVec 32 := Scalar.addi v79 v83
  let c1_i32_51 : BitVec 32 := 1#32
  let arg11 : BitVec 32 := Scf.iv v84 c1_i32_51 k0_t2
  let c1024_i32_52 : BitVec 32 := 1024#32
  let v85 : BitVec 32 := Scalar.muli arg11 c1024_i32_52
  let v86 : BitVec 32 := v85
  let v96 : Index := Scalar.indexCast v86
  let c0_60 : Index := 0#32
  ![0, v96.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1024x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ReferenceIdeal.lean ====
abbrev S4096x4x96 : Shape := ⟨3, ![4096, 4, 96]⟩
abbrev S4096x4x64 : Shape := ⟨3, ![4096, 4, 64]⟩
abbrev S4096 : Shape := ⟨1, ![4096]⟩
abbrev S4x4096x4096 : Shape := ⟨3, ![4, 4096, 4096]⟩
abbrev S_ : Shape := ⟨0, ![]⟩
abbrev S1x4096 : Shape := ⟨2, ![1, 4096]⟩
abbrev S4096x1 : Shape := ⟨2, ![4096, 1]⟩
abbrev S4096x4096 : Shape := ⟨2, ![4096, 4096]⟩
abbrev S4x4096 : Shape := ⟨2, ![4, 4096]⟩
abbrev S4x4096x1 : Shape := ⟨3, ![4, 4096, 1]⟩
abbrev S4x64x4096 : Shape := ⟨3, ![4, 64, 4096]⟩
abbrev S4x4096x96 : Shape := ⟨3, ![4, 4096, 96]⟩
abbrev S4x4096x128 : Shape := ⟨3, ![4, 4096, 128]⟩
abbrev S4x4096x64 : Shape := ⟨3, ![4, 4096, 64]⟩

abbrev nBuf : Space → Nat
  | .hbm => 98
  | .vmem => 0
  | .smem => 0
  | _ => 0

abbrev bufTy : (tb : Table) → Fin (tcTables nBuf tb) → BufTy
  | .hbm, ⟨0, _⟩ => ⟨S4096x4x96, .f32⟩
  | .hbm, ⟨1, _⟩ => ⟨S4096x4x96, .f32⟩
  | .hbm, ⟨2, _⟩ => ⟨S4096x4x64, .f32⟩
  | .hbm, ⟨3, _⟩ => ⟨S4096x4x64, .f32⟩
  | .hbm, ⟨4, _⟩ => ⟨S4096, .i32⟩
  | .hbm, ⟨5, _⟩ => ⟨S4x4096x4096, .f32⟩
  | .hbm, ⟨6, _⟩ => ⟨S_, .f32⟩
  | .hbm, ⟨7, _⟩ => ⟨S4x4096x4096, .f32⟩
  | .hbm, ⟨8, _⟩ => ⟨S4x4096x4096, .f32⟩
  | .hbm, ⟨9, _⟩ => ⟨S1x4096, .i32⟩
  | .hbm, ⟨10, _⟩ => ⟨S4096x1, .i32⟩
  | .hbm, ⟨11, _⟩ => ⟨S4096x4096, .i32⟩
  | .hbm, ⟨12, _⟩ => ⟨S4096x4096, .i32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4x4096x4096, .i1⟩
  | .hbm, ⟨17, _⟩ => ⟨S4x4096x4096, .f32⟩
  | .hbm, ⟨18, _⟩ => ⟨S4x4096x4096, .f32⟩
  | .hbm, ⟨19, _⟩ => ⟨S_, .f32⟩
  | .hbm, ⟨20, _⟩ => ⟨S4x4096x4096, .f32⟩
  | .hbm, ⟨21, _⟩ => ⟨S_, .f32⟩
  | .hbm, ⟨22, _⟩ => ⟨S4x4096, .f32⟩
  | .hbm, ⟨23, _⟩ => ⟨S4x4096x1, .f32⟩
  | .hbm, ⟨24, _⟩ => ⟨S4x4096x4096, .f32⟩
  | .hbm, ⟨25, _⟩ => ⟨S4x4096x4096, .i1⟩
  | .hbm, ⟨26, _⟩ => ⟨S4x4096x4096, .f32⟩
  | .hbm, ⟨27, _⟩ => ⟨S_, .f32⟩
  | .hbm, ⟨28, _⟩ => ⟨S4x4096, .f32⟩
  | .hbm, ⟨29, _⟩ => ⟨S_, .f32⟩
  | .hbm, ⟨30, _⟩ => ⟨S4x4096, .f32⟩
  | .hbm, ⟨31, _⟩ => ⟨S4x4096, .f32⟩
  | .hbm, ⟨32, _⟩ => ⟨S_, .f32⟩
  | .hbm, ⟨33, _⟩ => ⟨S4x4096, .f32⟩
  | .hbm, ⟨34, _⟩ => ⟨S4x4096, .i1⟩
  | .hbm, ⟨35, _⟩ => ⟨S_, .f32⟩
  | .hbm, ⟨36, _⟩ => ⟨S4x4096, .f32⟩
  | .hbm, ⟨37, _⟩ => ⟨S4x4096, .i1⟩
  | .hbm, ⟨38, _⟩ => ⟨S_, .f32⟩
  | .hbm, ⟨39, _⟩ => ⟨S4x4096, .f32⟩
  | .hbm, ⟨40, _⟩ => ⟨S_, .f32⟩
  | .hbm, ⟨41, _⟩ => ⟨S4x4096, .f32⟩
  | .hbm, ⟨42, _⟩ => ⟨S_, .f32⟩
  | .hbm, ⟨43, _⟩ => ⟨S4x4096, .f32⟩
  | .hbm, ⟨44, _⟩ => ⟨S4x4096, .f32⟩
  | .hbm, ⟨45, _⟩ => ⟨S4x4096, .f32⟩
  | .hbm, ⟨46, _⟩ => ⟨S4x4096x1, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S4x4096x4096, .f32⟩
  | .hbm, ⟨54, _⟩ => ⟨S4x4096x4096, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x64x4096, .f32⟩
  | .hbm, ⟨60, _⟩ => ⟨S4096x4x64, .f32⟩
  | .hbm, ⟨61, _⟩ => ⟨S4x64x4096, .f32⟩
  | .hbm, ⟨62, _⟩ => ⟨S4x4096x4096, .f32⟩
  | .hbm, ⟨63, _⟩ => ⟨S4x64x4096, .f32⟩
  | .hbm, ⟨64, _⟩ => ⟨S4096x4x64, .f32⟩
  | .hbm, ⟨65, _⟩ => ⟨S4x4096x4096, .f32⟩
  | .hbm, ⟨66, _⟩ => ⟨S4x4096x4096, .f32⟩
  | .hbm, ⟨67, _⟩ => ⟨S4x4096x4096, .f32⟩
  | .hbm, ⟨68, _⟩ => ⟨S_, .f32⟩
  | .hbm, ⟨69, _⟩ => ⟨S4x4096, .f32⟩
  | .hbm, ⟨70, _⟩ => ⟨S4x4096x1, .f32⟩
  | .hbm, ⟨71, _⟩ => ⟨S4x4096x1, .f32⟩
  | .hbm, ⟨72, _⟩ => ⟨S4x4096x4096, .f32⟩
  | .hbm, ⟨73, _⟩ => ⟨S4x4096x4096, .f32⟩
  | .hbm, ⟨74, _⟩ => ⟨S_, .f32⟩
  | .hbm, ⟨75, _⟩ => ⟨S4x4096, .f32⟩
  | .hbm, ⟨76, _⟩ => ⟨S4x4096x4096, .f32⟩
  | .hbm, ⟨77, _⟩ => ⟨S4x4096x4096, .f32⟩
  | .hbm, ⟨78, _⟩ => ⟨S4x4096x4096, .f32⟩
  | .hbm, ⟨79, _⟩ => ⟨S_, .f32⟩
  | .hbm, ⟨80, _⟩ => ⟨S4x4096x4096, .f32⟩
  | .hbm, ⟨81, _⟩ => ⟨S4x4096x4096, .f32⟩
  | .hbm, ⟨82, _⟩ => ⟨S_, .f32⟩
  | .hbm, ⟨83, _⟩ => ⟨S4x4096x4096, .f32⟩
  | .hbm, ⟨84, _⟩ => ⟨S4x4096x4096, .f32⟩
  | .hbm, ⟨85, _⟩ => ⟨S4x4096x96, .f32⟩
  | .hbm, ⟨86, _⟩ => ⟨S4096x4x96, .f32⟩
  | .hbm, ⟨87, _⟩ => ⟨S4x4096x96, .f32⟩
  | .hbm, ⟨88, _⟩ => ⟨S4096x4x96, .f32⟩
  | .hbm, ⟨89, _⟩ => ⟨S4x4096x96, .f32⟩
  | .hbm, ⟨90, _⟩ => ⟨S_, .i32⟩
  | .hbm, ⟨91, _⟩ => ⟨S_, .f32⟩
  | .hbm, ⟨92, _⟩ => ⟨S4x4096x128, .f32⟩
  | .hbm, ⟨93, _⟩ => ⟨S4x4096x96, .f32⟩
  | .hbm, ⟨94, _⟩ => ⟨S_, .i32⟩
  | .hbm, ⟨95, _⟩ => ⟨S_, .f32⟩
  | .hbm, ⟨96, _⟩ => ⟨S4x4096x128, .f32⟩
  | .hbm, ⟨97, _⟩ => ⟨S4x4096x64, .f32⟩
  | _, _ => ⟨S4096x4x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_c : Ref sig .tc := ⟨.hbm, 90, rfl⟩
abbrev main_call2_v0 : Ref sig .tc := ⟨.hbm, 91, rfl⟩
abbrev main_v64 : Ref sig .tc := ⟨.hbm, 92, rfl⟩
abbrev main_v65 : Ref sig .tc := ⟨.hbm, 93, rfl⟩
abbrev main_c_14 : Ref sig .tc := ⟨.hbm, 94, rfl⟩
abbrev main_call3_v0 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Up.lean ====
abbrev S4096x1024 : Shape := ⟨2, ![4096, 1024]⟩
abbrev S1024x5632 : Shape := ⟨2, ![1024, 5632]⟩
abbrev S4096x5632 : Shape := ⟨2, ![4096, 5632]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S4096x5632, .f32⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== UpDx.lean ====
abbrev S4096x1024 : Shape := ⟨2, ![4096, 1024]⟩
abbrev S1024x5632 : Shape := ⟨2, ![1024, 5632]⟩
abbrev S4096x5632 : Shape := ⟨2, ![4096, 5632]⟩
abbrev S512x2816 : Shape := ⟨2, ![512, 2816]⟩
abbrev S1024x2816 : Shape := ⟨2, ![1024, 2816]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .bf16⟩
  | .hbm, ⟨4, _⟩ => ⟨S1024x5632, .bf16⟩
  | .hbm, ⟨5, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S1024x2816, .bf16⟩
  | .local _ .vmem, ⟨3, _⟩ => ⟨S1024x2816, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDw.lean ====
abbrev S4096x1024 : Shape := ⟨2, ![4096, 1024]⟩
abbrev S1024x5632 : Shape := ⟨2, ![1024, 5632]⟩
abbrev S4096x5632 : Shape := ⟨2, ![4096, 5632]⟩
abbrev S2048x512 : Shape := ⟨2, ![2048, 512]⟩
abbrev S2048x1408 : Shape := ⟨2, ![2048, 1408]⟩
abbrev S512x1408 : Shape := ⟨2, ![512, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x1024, .bf16⟩
  | .hbm, ⟨4, _⟩ => ⟨S4096x5632, .bf16⟩
  | .hbm, ⟨5, _⟩ => ⟨S1024x5632, .f32⟩
  | .local _ .vmem, ⟨0, _⟩ => ⟨S2048x512, .bf16⟩
  | .local _ .vmem, ⟨1, _⟩ => ⟨S2048x512, .bf16⟩
  | .local _ .vmem, ⟨2, _⟩ => ⟨S2048x1408, .bf16⟩
  | .local _ .vmem, ⟨3, _⟩ => ⟨S2048x1408, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x5632, .f32⟩
  | .hbm, ⟨4, _⟩ => ⟨S5632x1024, .f32⟩
  | .hbm, ⟨5, _⟩ => ⟨S1024x5632, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x2816, .bf16⟩
  | .hbm, ⟨3, _⟩ => ⟨S2816x1024, .bf16⟩
  | .hbm, ⟨4, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== DownDx.lean ====
abbrev S4096x2816 : Shape := ⟨2, ![4096, 2816]⟩
abbrev S2816x1024 : Shape := ⟨2, ![2816, 1024]⟩
abbrev S4096x1024 : Shape := ⟨2, ![4096, 1024]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .bf16⟩
  | .hbm, ⟨4, _⟩ => ⟨S2816x1024, .bf16⟩
  | .hbm, ⟨5, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4096x2816, .f32⟩
  | .hbm, ⟨7, _⟩ => ⟨S4096x2816, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x2816 : Shape := ⟨2, ![4096, 2816]⟩
abbrev S2816x1024 : Shape := ⟨2, ![2816, 1024]⟩
abbrev S4096x1024 : Shape := ⟨2, ![4096, 1024]⟩
abbrev S2048x256 : Shape := ⟨2, ![2048, 256]⟩
abbrev S2048x1024 : Shape := ⟨2, ![2048, 1024]⟩
abbrev S256x1024 : Shape := ⟨2, ![256, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x2816, .bf16⟩
  | .hbm, ⟨4, _⟩ => ⟨S4096x1024, .bf16⟩
  | .hbm, ⟨5, _⟩ => ⟨S2816x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .bf16⟩
  | .local _ .vmem, ⟨3, _⟩ => ⟨S2048x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 7
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S4096x1024, .f32⟩
  | .hbm, ⟨4, _⟩ => ⟨S1024x2816, .f32⟩
  | .hbm, ⟨5, _⟩ => ⟨S2816x1024, .f32⟩
  | .hbm, ⟨6, _⟩ => ⟨S4096x2816, .f32⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== In.lean ====
abbrev S4096x1024 : Shape := ⟨2, ![4096, 1024]⟩
abbrev S1024x2688 : Shape := ⟨2, ![1024, 2688]⟩
abbrev S4096x2688 : Shape := ⟨2, ![4096, 2688]⟩
abbrev S512x1024 : Shape := ⟨2, ![512, 1024]⟩
abbrev S1024x896 : Shape := ⟨2, ![1024, 896]⟩
abbrev S512x896 : Shape := ⟨2, ![512, 896]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2688, .f32⟩
  | .hbm, ⟨2, _⟩ => ⟨S4096x1024, .bf16⟩
  | .hbm, ⟨3, _⟩ => ⟨S1024x2688, .bf16⟩
  | .hbm, ⟨4, _⟩ => ⟨S4096x2688, .f32⟩
  | .local _ .vmem, ⟨0, _⟩ => ⟨S512x1024, .bf16⟩
  | .local _ .vmem, ⟨1, _⟩ => ⟨S512x1024, .bf16⟩
  | .local _ .vmem, ⟨2, _⟩ => ⟨S1024x896, .bf16⟩
  | .local _ .vmem, ⟨3, _⟩ => ⟨S1024x896, .bf16⟩
  | .local _ .vmem, ⟨4, _⟩ => ⟨S512x896, .f32⟩
  | .local _ .vmem, ⟨5, _⟩ => ⟨S512x896, .f32⟩
  | .local _ .vmem, ⟨6, _⟩ => ⟨S512x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InRefIdeal.lean ====
abbrev S4096x1024 : Shape := ⟨2, ![4096, 1024]⟩
abbrev S1024x2688 : Shape := ⟨2, ![1024, 2688]⟩
abbrev S4096x2688 : Shape := ⟨2, ![4096, 2688]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2688, .f32⟩
  | .hbm, ⟨2, _⟩ => ⟨S4096x2688, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== InDx.lean ====
abbrev S4096x1024 : Shape := ⟨2, ![4096, 1024]⟩
abbrev S1024x2688 : Shape := ⟨2, ![1024, 2688]⟩
abbrev S4096x2688 : Shape := ⟨2, ![4096, 2688]⟩
abbrev S512x2688 : Shape := ⟨2, ![512, 2688]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x2688, .f32⟩
  | .hbm, ⟨2, _⟩ => ⟨S4096x2688, .f32⟩
  | .hbm, ⟨3, _⟩ => ⟨S4096x2688, .bf16⟩
  | .hbm, ⟨4, _⟩ => ⟨S1024x2688, .bf16⟩
  | .hbm, ⟨5, _⟩ => ⟨S4096x1024, .f32⟩
  | .local _ .vmem, ⟨0, _⟩ => ⟨S512x2688, .bf16⟩
  | .local _ .vmem, ⟨1, _⟩ => ⟨S512x2688, .bf16⟩
  | .local _ .vmem, ⟨2, _⟩ => ⟨S1024x2688, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2688 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDxRefIdeal.lean ====
abbrev S4096x1024 : Shape := ⟨2, ![4096, 1024]⟩
abbrev S1024x2688 : Shape := ⟨2, ![1024, 2688]⟩
abbrev S4096x2688 : Shape := ⟨2, ![4096, 2688]⟩
abbrev S2688x1024 : Shape := ⟨2, ![2688, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2688, .f32⟩
  | .hbm, ⟨2, _⟩ => ⟨S4096x2688, .f32⟩
  | .hbm, ⟨3, _⟩ => ⟨S4096x2688, .f32⟩
  | .hbm, ⟨4, _⟩ => ⟨S2688x1024, .f32⟩
  | .hbm, ⟨5, _⟩ => ⟨S1024x2688, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDw.lean ====
abbrev S4096x1024 : Shape := ⟨2, ![4096, 1024]⟩
abbrev S1024x2688 : Shape := ⟨2, ![1024, 2688]⟩
abbrev S4096x2688 : Shape := ⟨2, ![4096, 2688]⟩
abbrev S2048x512 : Shape := ⟨2, ![2048, 512]⟩
abbrev S2048x896 : Shape := ⟨2, ![2048, 896]⟩
abbrev S512x896 : Shape := ⟨2, ![512, 896]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x2688, .f32⟩
  | .hbm, ⟨2, _⟩ => ⟨S4096x2688, .f32⟩
  | .hbm, ⟨3, _⟩ => ⟨S4096x1024, .bf16⟩
  | .hbm, ⟨4, _⟩ => ⟨S4096x2688, .bf16⟩
  | .hbm, ⟨5, _⟩ => ⟨S1024x2688, .f32⟩
  | .local _ .vmem, ⟨0, _⟩ => ⟨S2048x512, .bf16⟩
  | .local _ .vmem, ⟨1, _⟩ => ⟨S2048x512, .bf16⟩
  | .local _ .vmem, ⟨2, _⟩ => ⟨S2048x896, .bf16⟩
  | .local _ .vmem, ⟨3, _⟩ => ⟨S2048x896, .bf16⟩
  | .local _ .vmem, ⟨4, _⟩ => ⟨S512x896, .f32⟩
  | .local _ .vmem, ⟨5, _⟩ => ⟨S512x896, .f32⟩
  | .local _ .vmem, ⟨6, _⟩ => ⟨S512x896, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S4096x1024 : Shape := ⟨2, ![4096, 1024]⟩
abbrev S1024x2688 : Shape := ⟨2, ![1024, 2688]⟩
abbrev S4096x2688 : Shape := ⟨2, ![4096, 2688]⟩
abbrev S2688x1024 : Shape := ⟨2, ![2688, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2688, .f32⟩
  | .hbm, ⟨2, _⟩ => ⟨S4096x2688, .f32⟩
  | .hbm, ⟨3, _⟩ => ⟨S4096x2688, .f32⟩
  | .hbm, ⟨4, _⟩ => ⟨S2688x1024, .f32⟩
  | .hbm, ⟨5, _⟩ => ⟨S1024x2688, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Out.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .bf16⟩
  | .hbm, ⟨3, _⟩ => ⟨S1024x1024, .bf16⟩
  | .hbm, ⟨4, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRefIdeal.lean ====
abbrev S4096x1024 : Shape := ⟨2, ![4096, 1024]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S1024x1024, .bf16⟩
  | .hbm, ⟨5, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDxRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .bf16⟩
  | .hbm, ⟨4, _⟩ => ⟨S4096x1024, .bf16⟩
  | .hbm, ⟨5, _⟩ => ⟨S1024x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond3 (i : grid0.Coords) : BitVec 1 :=
  let arg2 : BitVec 32 := BitVec.ofNat 32 (i 2).val
  let c1_i32_6 : BitVec 32 := 1#32
  let v13 : BitVec 1 := Scalar.cmpi .eq arg2 c1_i32_6
  let v14 : BitVec 32 := Scalar.extui v13
  let c0_i32_7 : BitVec 32 := 0#32
  let v15 : BitVec 1 := Scalar.cmpi .ne v14 c0_i32_7
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutDwRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S1024x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Block.lean ====
/- What one grid point of the backward pass does to its three result blocks, as functions of the contents of its operands: first the diagonal block of
   queries (masked), then the later blocks of queries one after another (unmasked). Each step adds to the whole block of the key gradient, to the whole
   block of the value gradient, and to one block of rows of the query gradient. -/
module

public import proofs.«01_k».proof.Proof.Gen.KernelIdeal.Frame
public import proofs.«01_k».proof.Proof.Gen.KernelIdeal.Loops
public import Idealize.ShloMosaic.Lib.VecWindow

@[expose] public section

noncomputable section

namespace Cert.KernelIdeal.Body

open Idealize.ShloMosaic Idealize.ShloMosaic.TcCoe Idealize.ShloMosaic.Tactic
open Cert.KernelIdeal Cert.KernelIdeal.Gen

variable {F : FTy → Type} [FloatOps F]

/-- The offsets of block `n` of 1024 rows. -/
abbrev blkOff (n : Fin 4) : Fin 3 → ℕ := ![0, 1024 * n.val, 0]

theorem inb128 (n : Fin 4) : ∀ a, blkOff n a + S1x1024x128.size a ≤ S1x4096x128.size a := by revert n; decide
theorem inb64 (n : Fin 4) : ∀ a, blkOff n a + S1x1024x64.size a ≤ S1x4096x64.size a := by revert n; decide
theorem inb1 (n : Fin 4) : ∀ a, blkOff n a + S1x1024x1.size a ≤ S1x4096x1.size a := by revert n; decide

/-- Block `n` of the rows of a 128-wide operand, -/
def rows128 {e : EltTy} (x : Vec F S1x4096x128 e) (n : Fin 4) : Vec F S1x1024x128 e := VecWindow.window x (blkOff n) S1x1024x128.size (inb128 n)
/-- of a 64-wide one, -/
def rows64 {e : EltTy} (x : Vec F S1x4096x64 e) (n : Fin 4) : Vec F S1x1024x64 e := VecWindow.window x (blkOff n) S1x1024x64.size (inb64 n)
/-- and of a column. -/
def rows1 {e : EltTy} (x : Vec F S1x4096x1 e) (n : Fin 4) : Vec F S1x1024x1 e := VecWindow.window x (blkOff n) S1x1024x1.size (inb1 n)

/-- Block `n` of the rows replaced. -/
def putRows (x : Vec F S1x4096x128 .f32) (n : Fin 4) (w : Vec F S1x1024x128 .f32) : Vec F S1x4096x128 .f32 :=
  VecWindow.put x (blkOff n) S1x1024x128.size w

/-- The gradients a grid point accumulates: of the queries of a head, of a block of keys, of a block of values. -/
abbrev Grads (F : FTy → Type) : Type := Vec F S1x4096x128 .f32 × Vec F S1x1024x128 .f32 × Vec F S1x1024x64 .f32

variable (x0 : Vec F S1x4096x128 .bf16) (x1 : Vec F S1x1024x128 .bf16) (x2 : Vec F S1x1024x64 .bf16)
  (x3 : Vec F S1x4096x64 .f32) (x4 : Vec F S1x4096x1 .f32) (x5 : Vec F S1x4096x64 .f32)

/-- The scale of the scores. -/
def scaleC : F .f32 := Scalar.ofBits .f32 0x3DD105EC#32

/-- An unmasked step: the queries of block `n`, wholly past the keys at hand (`v8`, `v10` the blocks of keys and values). -/
def offStep (v8 : FVec F S1024x128 .bf16) (v10 : FVec F S1024x64 .bf16) (n : Fin 4) (s : Grads F) : Grads F :=
  let p := k0_pay13 v8 v10 (rows128 x0 n) (rows64 x5 n) (rows1 x4 n) (rows64 x3 n)
  (putRows s.1 n (k0_pay5 v8 p scaleC (rows128 s.1 n)),
   k0_pay4 (k0_pay9 (rows128 x0 n)) p scaleC s.2.1,
   k0_pay12 v8 (rows128 x0 n) (rows64 x5 n) (rows1 x4 n) s.2.2)

/-- The masked step: the queries of the block the keys are in. -/
def diagStep (j : Fin 4) (s : Grads F) : Grads F :=
  let a : BitVec 32 := BitVec.ofNat 32 j.val
  let o : BitVec 32 := Scalar.muli a 1024#32
  let p := k0_pay26 x1 (rows128 x0 j) (rows1 x4 j)
  let do' := k0_pay25 (rows64 x5 j)
  let v10 := k0_pay23 x2
  (putRows s.1 j (k0_pay2 (k0_pay22 x1) (k0_pay29 a v10 do' p o (rows64 x3 j)) (rows128 s.1 j)),
   k0_pay1 (k0_pay30 a v10 (k0_pay24 (rows128 x0 j)) do' p o (rows64 x3 j) s.2.1),
   k0_pay28 a do' p o s.2.2)

/-- After the diagonal step and `k` unmasked ones, from query gradients `D`. -/
def steps (j : Fin 4) (D : Vec F S1x4096x128 .f32) : ℕ → Grads F
  | 0 => diagStep x0 x1 x2 x3 x4 x5 j (D, k0_pay20, k0_pay21)
  | k + 1 => if h : j.val + 1 + k < 4 then offStep x0 x3 x4 x5 (k0_pay22 x1) (k0_pay23 x2) ⟨j.val + 1 + k, h⟩ (steps j D k) else steps j D k

theorem steps_succ (j : Fin 4) (D : Vec F S1x4096x128 .f32) (k : ℕ) (h : j.val + 1 + k < 4) :
    steps x0 x1 x2 x3 x4 x5 j D (k + 1)
      = offStep x0 x3 x4 x5 (k0_pay22 x1) (k0_pay23 x2) ⟨j.val + 1 + k, h⟩ (steps x0 x1 x2 x3 x4 x5 j D k) := by
  rw [steps, dif_pos h]

/-- What the grid point of key block `j` leaves, from query gradients `D`. -/
def point (j : Fin 4) (D : Vec F S1x4096x128 .f32) : Grads F := steps x0 x1 x2 x3 x4 x5 j D (3 - j.val)

/-! ## The offsets and trip counts of the program, in closed form -/

theorem trips1 (i : grid0.Coords) : (k0_t1_loop i).trips = 3 - (i 1).val := by
  have h : ∀ j : Fin 4, Scf.trips (Scalar.addi (BitVec.ofNat 32 j.val) 1#32)
      (Scalar.addi (Scalar.addi (BitVec.ofNat 32 j.val) 1#32) (Scalar.muli (Scalar.divsi (Scalar.subi 4#32 (Scalar.addi (BitVec.ofNat 32 j.val) 1#32)) 1#32) 1#32)) 1#32
        = 3 - j.val := by decide
  exact h (i 1)

theorem trips2 (i : grid0.Coords) : (k0_t2_loop i).trips = 0 := by
  have h : ∀ j : Fin 4, Scf.trips
      (Scalar.addi (Scalar.addi (BitVec.ofNat 32 j.val) 1#32) (Scalar.muli (Scalar.divsi (Scalar.subi 4#32 (Scalar.addi (BitVec.ofNat 32 j.val) 1#32)) 1#32) 1#32))
      (Scalar.addi (Scalar.addi (BitVec.ofNat 32 j.val) 1#32) (Scalar.subi 4#32 (Scalar.addi (BitVec.ofNat 32 j.val) 1#32))) 1#32 = 0 := by decide
  exact h (i 1)

theorem off1 (i : grid0.Coords) : k0_off1 i = blkOff (i 1) := by
  have h : ∀ j : Fin 4, (Scalar.indexCast (Scalar.muli (BitVec.ofNat 32 j.val) 1024#32)).toNat = 1024 * j.val := by decide
  show (![0, _, 0] : Fin 3 → ℕ) = ![0, _, 0]; rw [h (i 1)]
theorem off2 (i : grid0.Coords) : k0_off2 i = blkOff (i 1) := off1 i
theorem off3 (i : grid0.Coords) : k0_off3 i = blkOff (i 1) := off1 i

/-- The block of queries of trip `k`. -/
def tripBlk (i : grid0.Coords) (k : Fin (k0_t1_loop i).trips) : Fin 4 := ⟨(i 1).val + 1 + k.val, by have := k.isLt; have := trips1 i; omega⟩

theorem off4 (i : grid0.Coords) (k : Fin (k0_t1_loop i).trips) : k0_off4 i k = blkOff (tripBlk i k) := by
  have h : ∀ j k : Fin 4, (Scalar.indexCast (Scalar.muli (Scf.iv (Scalar.addi (BitVec.ofNat 32 j.val) 1#32) 1#32 k.val) 1024#32)).toNat
      = 1024 * (j.val + 1 + k.val) := by decide
  have := h (i 1) ⟨k.val, by have := k.isLt; have := trips1 i; omega⟩
  show (![0, _, 0] : Fin 3 → ℕ) = ![0, _, 0]; rw [this]; rfl
theorem off5 (i : grid0.Coords) (k : Fin (k0_t1_loop i).trips) : k0_off5 i k = blkOff (tripBlk i k) := off4 i k
theorem off6 (i : grid0.Coords) (k : Fin (k0_t1_loop i).trips) : k0_off6 i k = blkOff (tripBlk i k) := off4 i k

end Cert.KernelIdeal.Body

end
-- ==== Proof.Trips.lean ====
/- The unmasked loop of the body: its trips leave in the three result buffers the states of `steps`. -/
module

public import proofs.«01_k».proof.Proof.Block

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What a load of a block of rows, or of a whole operand, reads -/

theorem load128 {e : EltTy} (m : Memref sig .tc .vmem S1x4096x128 e) (h : m.IsWhole) (x : Vec F S1x4096x128 e) {off : Fin 3 → ℕ} (n : Fin 4) (ho : off = blkOff n)
    (inb : ∀ a, off a + S1x1024x128.size a ≤ S1x4096x128.size a) :
    m.view.readAt (Elt F) (Rect.unit (s := S1x4096x128) off S1x1024x128.size inb).toLoadRect (h.unread x) = rows128 x n :=
  (View.readAt_unit m.view _ inb ho (inb128 n)).trans (by rw [h.read_unread]; rfl)

theorem load64 {e : EltTy} (m : Memref sig .tc .vmem S1x4096x64 e) (h : m.IsWhole) (x : Vec F S1x4096x64 e) {off : Fin 3 → ℕ} (n : Fin 4) (ho : off = blkOff n)
    (inb : ∀ a, off a + S1x1024x64.size a ≤ S1x4096x64.size a) :
    m.view.readAt (Elt F) (Rect.unit (s := S1x4096x64) off S1x1024x64.size inb).toLoadRect (h.unread x) = rows64 x n :=
  (View.readAt_unit m.view _ inb ho (inb64 n)).trans (by rw [h.read_unread]; rfl)

theorem load1 {e : EltTy} (m : Memref sig .tc .vmem S1x4096x1 e) (h : m.IsWhole) (x : Vec F S1x4096x1 e) {off : Fin 3 → ℕ} (n : Fin 4) (ho : off = blkOff n)
    (inb : ∀ a, off a + S1x1024x1.size a ≤ S1x4096x1.size a) :
    m.view.readAt (Elt F) (Rect.unit (s := S1x4096x1) off S1x1024x1.size inb).toLoadRect (h.unread x) = rows1 x n :=
  (View.readAt_unit m.view _ inb ho (inb1 n)).trans (by rw [h.read_unread]; rfl)

theorem loadK {e : EltTy} (m : Memref sig .tc .vmem S1x1024x128 e) (h : m.IsWhole) (x : Vec F S1x1024x128 e) :
    m.view.readAt (Elt F) (Rect.unit (s := S1x1024x128) ![0, 0, 0] S1x1024x128.size inb_S1x1024x128_S1x1024x128_0_0_0).toLoadRect (h.unread x) = x :=
  (View.readAt_full m.view _ inb_S1x1024x128_S1x1024x128_0_0_0).trans (h.read_unread _)

theorem loadV {e : EltTy} (m : Memref sig .tc .vmem S1x1024x64 e) (h : m.IsWhole) (x : Vec F S1x1024x64 e) :
    m.view.readAt (Elt F) (Rect.unit (s := S1x1024x64) ![0, 0, 0] S1x1024x64.size inb_S1x1024x64_S1x1024x64_0_0_0).toLoadRect (h.unread x) = x :=
  (View.readAt_full m.view _ inb_S1x1024x64_S1x1024x64_0_0_0).trans (h.read_unread _)

variable (c : Dev nD) (i : grid0.Coords) (arg2 : Memref sig .tc .vmem S1x4096x128 .bf16) (harg2 : arg2.IsWhole) (arg3 : Memref sig .tc .vmem S1x1024x128 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x64 .f32) (harg7 : arg7.IsWhole) (arg8 : Memref sig .tc .vmem S1x4096x128 .f32) (harg8 : arg8.IsWhole) (arg9 : Memref sig .tc .vmem S1x1024x128 .f32) (harg9 : arg9.IsWhole) (arg10 : Memref sig .tc .vmem S1x1024x64 .f32) (harg10 : arg10.IsWhole)
  (v8 : FVec F S1024x128 .bf16) (v10 : FVec F S1024x64 .bf16) (v79 : BitVec 32) (X2 : BufTy.Contents (Elt F) arg2.view.ty) (X5 : BufTy.Contents (Elt F) arg5.view.ty) (X6 : BufTy.Contents (Elt F) arg6.view.ty) (X7 : BufTy.Contents (Elt F) arg7.view.ty)

/-- What the three result buffers read. -/
abbrev readAll (f8 : BufTy.Contents (Elt F) arg8.view.ty) (f9 : BufTy.Contents (Elt F) arg9.view.ty) (f10 : BufTy.Contents (Elt F) arg10.view.ty) : Grads F :=
  (arg8.view.read (Elt F) f8, arg9.view.read (Elt F) f9, arg10.view.read (Elt F) f10)

/-- One trip is one unmasked step. -/
theorem trip_reads (k : Fin (k0_t1_loop i).trips) (f8 : BufTy.Contents (Elt F) arg8.view.ty) (f9 : BufTy.Contents (Elt F) arg9.view.ty) (f10 : BufTy.Contents (Elt F) arg10.view.ty) :
    let L := tripL_k0_t1 (F := F) Variants.none c none i arg2 harg2 arg3 harg3 arg4 harg4 arg5 harg5 arg6 harg6 arg7 harg7 arg8 harg8 arg9 harg9 arg10 harg10 v8 v10 v79 X2 X5 X6 X7 k f8 f9 f10
    readAll arg8 arg9 arg10 (arg8.view.writes (Elt F) f8 L.1) (arg9.view.writes (Elt F) f9 L.2.1) (arg10.view.writes (Elt F) f10 L.2.2)
      = offStep (arg2.view.read (Elt F) X2) (arg5.view.read (Elt F) X5) (arg6.view.read (Elt F) X6) (arg7.view.read (Elt F) X7) v8 v10 (tripBlk i k)
          (readAll arg8 arg9 arg10 f8 f9 f10) := by
  intro L
  have r2 := View.readAt_unit arg2.view X2 (k0_off4_inb i k) (off4 i k) (inb128 _)
  have r5 := View.readAt_unit arg5.view X5 (k0_off5_inb i k) (off5 i k) (inb64 _)
  have r6 := View.readAt_unit arg6.view X6 (k0_off6_inb i k) (off6 i k) (inb1 _)
  have r7 := View.readAt_unit arg7.view X7 (k0_off5_inb i k) (off5 i k) (inb64 _)
  have r8 := View.readAt_unit arg8.view f8 (k0_off4_inb i k) (off4 i k) (inb128 _)
  have r9 := View.readAt_full arg9.view f9 inb_S1x1024x128_S1x1024x128_0_0_0
  have r10 := View.readAt_full arg10.view f10 inb_S1x1024x64_S1x1024x64_0_0_0
  simp only [L, tripL_k0_t1]
  unfold trip_k0_t1
  dsimp only
  unfold trip_k0_t1.sl.r_1 trip_k0_t1.sl.r trip_k0_t1.sl.cst_72
  refine Prod.ext ?_ (Prod.ext ?_ ?_)
  · refine (View.read_writes_cons_put arg8.view f8 (k0_off4_inb i k) _ [] (off4 i k)).trans ?_
    rw [View.writes_nil]
    unfold offStep putRows rows128 rows64 rows1 scaleC
    rw [← r2, ← r5, ← r6, ← r7, ← r8]
  · refine (View.read_writes_full arg9.view f9 inb_S1x1024x128_S1x1024x128_0_0_0 _ []).trans ?_
    unfold offStep putRows rows128 rows64 rows1 scaleC
    rw [← r2, ← r5, ← r6, ← r7]
    refine congrArg (k0_pay4 _ _ _) r9
  · refine (View.read_writes_full arg10.view f10 inb_S1x1024x64_S1x1024x64_0_0_0 _ []).trans ?_
    unfold offStep putRows rows128 rows64 rows1 scaleC
    rw [← r2, ← r6, ← r7]
    refine congrArg (k0_pay12 _ _ _ _) r10

/-- After `n` trips the three buffers read as `steps` says, if they did before the first. -/
theorem loop_reads (x0 : Vec F S1x4096x128 .bf16) (x1 : Vec F S1x1024x128 .bf16) (x2 : Vec F S1x1024x64 .bf16) (x3 : Vec F S1x4096x64 .f32) (x4 : Vec F S1x4096x1 .f32)
    (x5 : Vec F S1x4096x64 .f32) (D : Vec F S1x4096x128 .f32)
    (G8 : BufTy.Contents (Elt F) arg8.view.ty) (G9 : BufTy.Contents (Elt F) arg9.view.ty) (G10 : BufTy.Contents (Elt F) arg10.view.ty)
    (h2 : arg2.view.read (Elt F) X2 = x0) (h5 : arg5.view.read (Elt F) X5 = x3) (h6 : arg6.view.read (Elt F) X6 = x4) (h7 : arg7.view.read (Elt F) X7 = x5)
    (e8 : v8 = k0_pay22 x1) (e10 : v10 = k0_pay23 x2)
    (h0 : readAll arg8 arg9 arg10 G8 G9 G10 = steps x0 x1 x2 x3 x4 x5 (i 1) D 0) :
    ∀ n, n ≤ (k0_t1_loop i).trips →
      let L := pb_k0_t1 (F := F) Variants.none c none i arg2 harg2 arg3 harg3 arg4 harg4 arg5 harg5 arg6 harg6 arg7 harg7 arg8 harg8 arg9 harg9 arg10 harg10 v8 v10 v79 X2 X5 X6 X7 G8 G9 G10 n
      readAll arg8 arg9 arg10 (arg8.view.writes (Elt F) G8 L.1) (arg9.view.writes (Elt F) G9 L.2.1) (arg10.view.writes (Elt F) G10 L.2.2)
        = steps x0 x1 x2 x3 x4 x5 (i 1) D n
  | 0, _ => h0
  | n + 1, hn => by
    have ih := loop_reads x0 x1 x2 x3 x4 x5 D G8 G9 G10 h2 h5 h6 h7 e8 e10 h0 n (by omega)
    subst h2 h5 h6 h7 e8 e10
    have ht := trips1 i
    have hk : (i 1).val + 1 + n < 4 := by omega
    intro L
    have e : L = _ := pb_k0_t1_succ (F := F) Variants.none c none i arg2 harg2 arg3 harg3 arg4 harg4 arg5 harg5 arg6 harg6 arg7 harg7 arg8 harg8 arg9 harg9 arg10 harg10 (k0_pay22 x1) (k0_pay23 x2) v79 X2 X5 X6 X7 G8 G9 G10 ⟨n, hn⟩
    rw [e]
    dsimp only
    rw [View.writes_append, View.writes_append, View.writes_append]
    refine (trip_reads c i arg2 harg2 arg3 harg3 arg4 harg4 arg5 harg5 arg6 harg6 arg7 harg7 arg8 harg8 arg9 harg9 arg10 harg10 (k0_pay22 x1) (k0_pay23 x2) v79 X2 X5 X6 X7 ⟨n, hn⟩ _ _ _).trans ?_
    rw [ih]
    exact (steps_succ _ x1 x2 _ _ _ (i 1) D n hk).symm

/-- The second loop of the body has no trips. -/
theorem no_trips (i : grid0.Coords) : Scf.trips (k0_t2_loop i).lb (k0_t2_loop i).ub (k0_t2_loop i).st = 0 := trips2 i

end Cert.KernelIdeal.Body

end
-- ==== Proof.Body.lean ====
/- The run of the kernel body at a key block that is not the first of its head: it leaves the result blocks of `point`. -/
module

public import proofs.«01_k».proof.Proof.Trips

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_later (c : Dev nD) (i : grid0.Coords) (arg2 : Memref sig .tc .vmem S1x4096x128 .bf16) (harg2 : arg2.IsWhole) (arg3 : Memref sig .tc .vmem S1x1024x128 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x64 .f32) (harg7 : arg7.IsWhole) (arg8 : Memref sig .tc .vmem S1x4096x128 .f32) (harg8 : arg8.IsWhole) (arg9 : Memref sig .tc .vmem S1x1024x128 .f32) (harg9 : arg9.IsWhole) (arg10 : Memref sig .tc .vmem S1x1024x64 .f32) (harg10 : arg10.IsWhole) (hc0 : ¬(Scalar.cmpi .ne (Scalar.extui (Scalar.cmpi .eq (BitVec.ofNat 32 (i 1).val) 0#32)) 0#32) = 1#1)
    (x0 : Vec F S1x4096x128 .bf16) (x1 : Vec F S1x1024x128 .bf16) (x2 : Vec F S1x1024x64 .bf16) (x3 : Vec F S1x4096x64 .f32) (x4 : Vec F S1x4096x1 .f32) (x5 : Vec F S1x4096x64 .f32) (x6 : Vec F S1x4096x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (owns (c : Thread nD τ) arg8 fullShare x6) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (point x0 x1 x2 x3 x4 x5 (i 1) x6).1 ∗ owns (c : Thread nD τ) arg9 fullShare (point x0 x1 x2 x3 x4 x5 (i 1) x6).2.1 ∗ owns (c : Thread nD τ) arg10 fullShare (point x0 x1 x2 x3 x4 x5 (i 1) x6).2.2) -∗ K ⟨⟩))
          ⊢ wp frame (wpE (defs₀ (F := F)) Variants.none c none) E (cc0_mla_attn_b i arg2 harg2 arg3 harg3 arg4 harg4 arg5 harg5 arg6 harg6 arg7 harg7 arg8 harg8 arg9 harg9 arg10 harg10) K := by
    intro E K
    simp only [cc0_mla_attn_b_eq_skeleton]; unfold cc0_mla_attn_b_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6
    sl_exec (disch := first | sl_exact hc0)
    sl_step
    have r2 := load128 arg2 harg2 x0 (i 1) (off1 i) (k0_off1_inb i)
    have r3 := loadK arg3 harg3 x1
    have r4 := loadV arg4 harg4 x2
    have r5 := load64 arg5 harg5 x3 (i 1) (off2 i) (k0_off2_inb i)
    have r6 := load1 arg6 harg6 x4 (i 1) (off3 i) (k0_off3_inb i)
    have r7 := load64 arg7 harg7 x5 (i 1) (off2 i) (k0_off2_inb i)
    have r8 := load128 arg8 harg8 x6 (i 1) (off1 i) (k0_off1_inb i)
    have e8 : run_later.sl.r c arg3 harg3 x1 = k0_pay22 x1 := congrArg k0_pay22 r3
    have e10 : run_later.sl.r_1 c arg4 harg4 x2 = k0_pay23 x2 := congrArg k0_pay23 r4
    have q3 : run_later.sl.r_3 c i arg7 harg7 x5 = k0_pay25 (rows64 x5 (i 1)) := congrArg k0_pay25 r7
    have q4 : run_later.sl.r_4 c i arg2 harg2 arg3 harg3 arg6 harg6 x0 x1 x4 = k0_pay26 x1 (rows128 x0 (i 1)) (rows1 x4 (i 1)) := by
      unfold run_later.sl.r_4; rw [r2, r6]; exact congrArg (fun z => k0_pay26 z _ _) r3
    have q45 : run_later.sl.v45 (F := F) c arg10 = k0_pay21 :=
      View.readCov_full arg10.view inb_S1x1024x64_S1x1024x64_0_0_0 inb_S1x1024x64_S1x1024x64_0_0_0 _ _
    have q6 : run_later.sl.r_6 c i arg2 harg2 arg3 harg3 arg4 harg4 arg5 harg5 arg6 harg6 arg7 harg7 arg9 x0 x1 x2 x3 x4 x5
        = k0_pay30 (BitVec.ofNat 32 (i 1).val) (k0_pay23 x2) (k0_pay24 (rows128 x0 (i 1))) (k0_pay25 (rows64 x5 (i 1)))
            (k0_pay26 x1 (rows128 x0 (i 1)) (rows1 x4 (i 1))) (Scalar.muli (BitVec.ofNat 32 (i 1).val) 1024#32) (rows64 x3 (i 1)) k0_pay20 := by
      have q2 : run_later.sl.r_2 c i arg2 harg2 x0 = k0_pay24 (rows128 x0 (i 1)) := congrArg k0_pay24 r2
      unfold run_later.sl.r_6; rw [e10, q3, q4, q2, r5]
      exact congrArg (k0_pay30 _ _ _ _ _ _ _) (View.readCov_full arg9.view inb_S1x1024x128_S1x1024x128_0_0_0 inb_S1x1024x128_S1x1024x128_0_0_0 _ _)
    have q5 : run_later.sl.r_5 c i arg2 harg2 arg3 harg3 arg4 harg4 arg5 harg5 arg6 harg6 arg7 harg7 x0 x1 x2 x3 x4 x5
        = k0_pay29 (BitVec.ofNat 32 (i 1).val) (k0_pay23 x2) (k0_pay25 (rows64 x5 (i 1)))
            (k0_pay26 x1 (rows128 x0 (i 1)) (rows1 x4 (i 1))) (Scalar.muli (BitVec.ofNat 32 (i 1).val) 1024#32) (rows64 x3 (i 1)) := by
      unfold run_later.sl.r_5; rw [e10, q3, q4, r5]; rfl
    have h8 : arg8.view.read (Elt F) (arg8.view.writes (Elt F) (harg8.unread x6)
        [⟨Rect.unit (s := S1x4096x128) (k0_off1 i) ![1, 1024, 128] (k0_off1_inb i),
          k0_pay2 (run_later.sl.r c arg3 harg3 x1) (run_later.sl.r_5 c i arg2 harg2 arg3 harg3 arg4 harg4 arg5 harg5 arg6 harg6 arg7 harg7 x0 x1 x2 x3 x4 x5)
            (View.readAt (Elt F) arg8.view (Rect.unit (s := S1x4096x128) (k0_off1 i) ![1, 1024, 128] (k0_off1_inb i)).toLoadRect (harg8.unread x6))⟩])
        = (diagStep x0 x1 x2 x3 x4 x5 (i 1) (x6, k0_pay20, k0_pay21)).1 := by
      refine (View.read_writes_cons_put arg8.view _ (k0_off1_inb i) _ [] (off1 i)).trans ?_
      rw [View.writes_nil, e8, q5, r8, harg8.read_unread]
      rfl
    have h9 : arg9.view.read (Elt F) (arg9.view.writes (Elt F) arg9.view.junk (run_later.sl.H7_2 c i arg2 harg2 arg3 harg3 arg4 harg4 arg5 harg5 arg6 harg6 arg7 harg7 arg9 x0 x1 x2 x3 x4 x5))
        = (diagStep x0 x1 x2 x3 x4 x5 (i 1) (x6, k0_pay20, k0_pay21)).2.1 := by
      unfold run_later.sl.H7_2
      rw [q6]
      exact View.read_writes_full arg9.view _ inb_S1x1024x128_S1x1024x128_0_0_0 _ _
    have h10 : arg10.view.read (Elt F) (arg10.view.writes (Elt F) arg10.view.junk
        (run_later.sl.H8_2 c i arg2 harg2 arg3 harg3 arg6 harg6 arg7 harg7 arg10 x0 x1 x4 x5))
        = (diagStep x0 x1 x2 x3 x4 x5 (i 1) (x6, k0_pay20, k0_pay21)).2.2 := by
      unfold run_later.sl.H8_2
      rw [q3, q4, q45]
      exact View.read_writes_full arg10.view _ inb_S1x1024x64_S1x1024x64_0_0_0 _ _
    have h0 : readAll arg8 arg9 arg10 _ _ _ = steps x0 x1 x2 x3 x4 x5 (i 1) x6 0 :=
      Prod.ext h8 (Prod.ext h9 h10)
    have hp : steps x0 x1 x2 x3 x4 x5 (i 1) x6 (k0_t1_loop i).trips = point x0 x1 x2 x3 x4 x5 (i 1) x6 := by
      rw [trips1 i]; rfl
    have hl := (loop_reads c i arg2 harg2 arg3 harg3 arg4 harg4 arg5 harg5 arg6 harg6 arg7 harg7 arg8 harg8 arg9 harg9 arg10 harg10 _ _ (Scalar.addi (BitVec.ofNat 32 (i 1).val) 1#32) _ _ _ _ x0 x1 x2 x3 x4 x5 x6 _ _ _
      hf0 hf3 hf4 hf5 e8 e10 h0 _ le_rfl).trans hp
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [no_trips i]
      show arg8.view.read (Elt F) (arg8.view.writes (Elt F) _ ([] ++ (_ ++ _))) = _
      rw [List.nil_append, View.writes_append]
      exact congrArg (fun s : Grads F => s.1) hl
    isplitl [H7]
    · iexists _; isplitr; swap; · iexact H7
      ipureintro
      rw [no_trips i]
      show arg9.view.read (Elt F) (arg9.view.writes (Elt F) _ ([] ++ (_ ++ _))) = _
      rw [List.nil_append, View.writes_append]
      exact congrArg (fun s : Grads F => s.2.1) hl
    iexists _; isplitr; swap; · iexact H8
    ipureintro
    rw [no_trips i]
    show arg10.view.read (Elt F) (arg10.view.writes (Elt F) _ ([] ++ (_ ++ _))) = _
    rw [List.nil_append, View.writes_append]
    exact congrArg (fun s : Grads F => s.2.2) hl

end Cert.KernelIdeal.Body

end
-- ==== Proof.First.lean ====
/- The run of the kernel body at the first key block of a head, where the query gradients are set to zero first. -/
module

public import proofs.«01_k».proof.Proof.Body

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem run_first (c : Dev nD) (i : grid0.Coords) (arg2 : Memref sig .tc .vmem S1x4096x128 .bf16) (harg2 : arg2.IsWhole) (arg3 : Memref sig .tc .vmem S1x1024x128 .bf16) (harg3 : arg3.IsWhole) (arg4 : Memref sig .tc .vmem S1x1024x64 .bf16) (harg4 : arg4.IsWhole) (arg5 : Memref sig .tc .vmem S1x4096x64 .f32) (harg5 : arg5.IsWhole) (arg6 : Memref sig .tc .vmem S1x4096x1 .f32) (harg6 : arg6.IsWhole) (arg7 : Memref sig .tc .vmem S1x4096x64 .f32) (harg7 : arg7.IsWhole) (arg8 : Memref sig .tc .vmem S1x4096x128 .f32) (harg8 : arg8.IsWhole) (arg9 : Memref sig .tc .vmem S1x1024x128 .f32) (harg9 : arg9.IsWhole) (arg10 : Memref sig .tc .vmem S1x1024x64 .f32) (harg10 : arg10.IsWhole) (hc0 : (Scalar.cmpi .ne (Scalar.extui (Scalar.cmpi .eq (BitVec.ofNat 32 (i 1).val) 0#32)) 0#32) = 1#1)
    (x0 : Vec F S1x4096x128 .bf16) (x1 : Vec F S1x1024x128 .bf16) (x2 : Vec F S1x1024x64 .bf16) (x3 : Vec F S1x4096x64 .f32) (x4 : Vec F S1x4096x1 .f32) (x5 : Vec F S1x4096x64 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (point x0 x1 x2 x3 x4 x5 (i 1) k0_pay19).1 ∗ owns (c : Thread nD τ) arg9 fullShare (point x0 x1 x2 x3 x4 x5 (i 1) k0_pay19).2.1 ∗ owns (c : Thread nD τ) arg10 fullShare (point x0 x1 x2 x3 x4 x5 (i 1) k0_pay19).2.2) -∗ K ⟨⟩))
          ⊢ wp frame (wpE (defs₀ (F := F)) Variants.none c none) E (cc0_mla_attn_b i arg2 harg2 arg3 harg3 arg4 harg4 arg5 harg5 arg6 harg6 arg7 harg7 arg8 harg8 arg9 harg9 arg10 harg10) K := by
    intro E K
    simp only [cc0_mla_attn_b_eq_skeleton]; unfold cc0_mla_attn_b_skel
    simp only [k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec (disch := first | sl_exact hc0)
    sl_step
    have r2 := load128 arg2 harg2 x0 (i 1) (off1 i) (k0_off1_inb i)
    have r3 := loadK arg3 harg3 x1
    have r4 := loadV arg4 harg4 x2
    have r5 := load64 arg5 harg5 x3 (i 1) (off2 i) (k0_off2_inb i)
    have r6 := load1 arg6 harg6 x4 (i 1) (off3 i) (k0_off3_inb i)
    have r7 := load64 arg7 harg7 x5 (i 1) (off2 i) (k0_off2_inb i)
    have hz : arg8.view.read (Elt F) (arg8.view.writes (Elt F) arg8.view.junk (run_first.sl.H6_1 (F := F))) = k0_pay19 := by
      unfold run_first.sl.H6_1
      exact View.read_writes_full arg8.view _ inb_S1x4096x128_S1x4096x128_0_0_0 _ _
    have r8 : run_first.sl.v70 (F := F) c i arg8 = rows128 k0_pay19 (i 1) := by
      refine (View.readAt_unit arg8.view _ (k0_off1_inb i) (off1 i) (inb128 _)).trans ?_
      rw [hz]; rfl
    have e8 : run_first.sl.r c arg3 harg3 x1 = k0_pay22 x1 := congrArg k0_pay22 r3
    have e10 : run_first.sl.r_1 c arg4 harg4 x2 = k0_pay23 x2 := congrArg k0_pay23 r4
    have q3 : run_first.sl.r_3 c i arg7 harg7 x5 = k0_pay25 (rows64 x5 (i 1)) := congrArg k0_pay25 r7
    have q4 : run_first.sl.r_4 c i arg2 harg2 arg3 harg3 arg6 harg6 x0 x1 x4 = k0_pay26 x1 (rows128 x0 (i 1)) (rows1 x4 (i 1)) := by
      unfold run_first.sl.r_4; rw [r2, r6]; exact congrArg (fun z => k0_pay26 z _ _) r3
    have q45 : run_first.sl.v45 (F := F) c arg10 = k0_pay21 :=
      View.readCov_full arg10.view inb_S1x1024x64_S1x1024x64_0_0_0 inb_S1x1024x64_S1x1024x64_0_0_0 _ _
    have q6 : run_first.sl.r_6 c i arg2 harg2 arg3 harg3 arg4 harg4 arg5 harg5 arg6 harg6 arg7 harg7 arg9 x0 x1 x2 x3 x4 x5
        = k0_pay30 (BitVec.ofNat 32 (i 1).val) (k0_pay23 x2) (k0_pay24 (rows128 x0 (i 1))) (k0_pay25 (rows64 x5 (i 1)))
            (k0_pay26 x1 (rows128 x0 (i 1)) (rows1 x4 (i 1))) (Scalar.muli (BitVec.ofNat 32 (i 1).val) 1024#32) (rows64 x3 (i 1)) k0_pay20 := by
      have q2 : run_first.sl.r_2 c i arg2 harg2 x0 = k0_pay24 (rows128 x0 (i 1)) := congrArg k0_pay24 r2
      unfold run_first.sl.r_6; rw [e10, q3, q4, q2, r5]
      exact congrArg (k0_pay30 _ _ _ _ _ _ _) (View.readCov_full arg9.view inb_S1x1024x128_S1x1024x128_0_0_0 inb_S1x1024x128_S1x1024x128_0_0_0 _ _)
    have q5 : run_first.sl.r_5 c i arg2 harg2 arg3 harg3 arg4 harg4 arg5 harg5 arg6 harg6 arg7 harg7 x0 x1 x2 x3 x4 x5
        = k0_pay29 (BitVec.ofNat 32 (i 1).val) (k0_pay23 x2) (k0_pay25 (rows64 x5 (i 1)))
            (k0_pay26 x1 (rows128 x0 (i 1)) (rows1 x4 (i 1))) (Scalar.muli (BitVec.ofNat 32 (i 1).val) 1024#32) (rows64 x3 (i 1)) := by
      unfold run_first.sl.r_5; rw [e10, q3, q4, r5]; rfl
    have h8 : arg8.view.read (Elt F) (arg8.view.writes (Elt F) arg8.view.junk
        (⟨Rect.unit (s := S1x4096x128) (k0_off1 i) ![1, 1024, 128] (k0_off1_inb i),
          k0_pay2 (run_first.sl.r c arg3 harg3 x1) (run_first.sl.r_5 c i arg2 harg2 arg3 harg3 arg4 harg4 arg5 harg5 arg6 harg6 arg7 harg7 x0 x1 x2 x3 x4 x5) (run_first.sl.v70 c i arg8)⟩ :: run_first.sl.H6_1))
        = (diagStep x0 x1 x2 x3 x4 x5 (i 1) (k0_pay19, k0_pay20, k0_pay21)).1 := by
      refine (View.read_writes_cons_put arg8.view _ (k0_off1_inb i) _ _ (off1 i)).trans ?_
      rw [e8, q5, r8, hz]
      rfl
    have h9 : arg9.view.read (Elt F) (arg9.view.writes (Elt F) arg9.view.junk (run_first.sl.H7_2 c i arg2 harg2 arg3 harg3 arg4 harg4 arg5 harg5 arg6 harg6 arg7 harg7 arg9 x0 x1 x2 x3 x4 x5))
        = (diagStep x0 x1 x2 x3 x4 x5 (i 1) (k0_pay19, k0_pay20, k0_pay21)).2.1 := by
      unfold run_first.sl.H7_2
      rw [q6]
      exact View.read_writes_full arg9.view _ inb_S1x1024x128_S1x1024x128_0_0_0 _ _
    have h10 : arg10.view.read (Elt F) (arg10.view.writes (Elt F) arg10.view.junk
        (run_first.sl.H8_2 c i arg2 harg2 arg3 harg3 arg6 harg6 arg7 harg7 arg10 x0 x1 x4 x5))
        = (diagStep x0 x1 x2 x3 x4 x5 (i 1) (k0_pay19, k0_pay20, k0_pay21)).2.2 := by
      unfold run_first.sl.H8_2
      rw [q3, q4, q45]
      exact View.read_writes_full arg10.view _ inb_S1x1024x64_S1x1024x64_0_0_0 _ _
    have h0 : readAll arg8 arg9 arg10 _ _ _ = steps x0 x1 x2 x3 x4 x5 (i 1) k0_pay19 0 :=
      Prod.ext h8 (Prod.ext h9 h10)
    have hp : steps x0 x1 x2 x3 x4 x5 (i 1) k0_pay19 (k0_t1_loop i).trips = point x0 x1 x2 x3 x4 x5 (i 1) k0_pay19 := by
      rw [trips1 i]; rfl
    have hl := (loop_reads c i arg2 harg2 arg3 harg3 arg4 harg4 arg5 harg5 arg6 harg6 arg7 harg7 arg8 harg8 arg9 harg9 arg10 harg10 _ _ (Scalar.addi (BitVec.ofNat 32 (i 1).val) 1#32) _ _ _ _ x0 x1 x2 x3 x4 x5 k0_pay19 _ _ _
      hf0 hf3 hf4 hf5 e8 e10 h0 _ le_rfl).trans hp
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; swap; · iexact H6
      ipureintro
      rw [no_trips i]
      show arg8.view.read (Elt F) (arg8.view.writes (Elt F) _ ([] ++ (_ ++ _))) = _
      rw [List.nil_append, View.writes_append]
      exact congrArg (fun s : Grads F => s.1) hl
    isplitl [H7]
    · iexists _; isplitr; swap; · iexact H7
      ipureintro
      rw [no_trips i]
      show arg9.view.read (Elt F) (arg9.view.writes (Elt F) _ ([] ++ (_ ++ _))) = _
      rw [List.nil_append, View.writes_append]
      exact congrArg (fun s : Grads F => s.2.1) hl
    iexists _; isplitr; swap; · iexact H8
    ipureintro
    rw [no_trips i]
    show arg10.view.read (Elt F) (arg10.view.writes (Elt F) _ ([] ++ (_ ++ _))) = _
    rw [List.nil_append, View.writes_append]
    exact congrArg (fun s : Grads F => s.2.2) hl

end Cert.KernelIdeal.Body

end
-- ==== Proof.Launch.lean ====
/- The launch: what each grid point leaves in the three result blocks, and the run of the whole program with the result
   arrays named. -/
module

public import proofs.«01_k».proof.Proof.First
public import Idealize.ShloMosaic.Lib.Claim

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What point `t` leaves if the query gradients of its head stand at `D` before it. -/
def pointAt (c : Dev nD) (t : Fin cfg0.N) (D : Vec F S1x4096x128 .f32) : Grads F :=
  point (iblk m c 0 t) (iblk m c 1 t) (iblk m c 2 t) (iblk m c 3 t) (iblk m c 4 t) (iblk m c 5 t) (grid0.coords t 1) D

/-- What point `n` leaves: at the first key block of a head the query gradients start at zero, later where the point before left them. -/
def outs (c : Dev nD) : (n : ℕ) → n < cfg0.N → Grads F
  | 0, h => pointAt m c ⟨0, h⟩ k0_pay19
  | n + 1, h => pointAt m c ⟨n + 1, h⟩ (if (n + 1) % 4 = 0 then k0_pay19 else (outs c n (by omega)).1)

theorem outs_first (c : Dev nD) (t : Fin cfg0.N) (h : t.val % 4 = 0) : outs m c t.val t.isLt = pointAt m c t k0_pay19 := by
  obtain ⟨_ | n, hn⟩ := t
  · rfl
  · show pointAt m c _ _ = _
    rw [if_pos h]

theorem outs_later (c : Dev nD) (t : Fin cfg0.N) (h : ¬t.val % 4 = 0) :
    outs m c t.val t.isLt = pointAt m c t (outs m c (t.val - 1) (Nat.lt_of_le_of_lt (Nat.sub_le _ _) t.isLt)).1 := by
  obtain ⟨_ | n, hn⟩ := t
  · exact absurd rfl h
  · show pointAt m c _ _ = _
    rw [if_neg h]; rfl

/-- The body's condition holds at the first key block of each head. -/
abbrev isFirst (i : grid0.Coords) : Prop := (Scalar.cmpi .ne (Scalar.extui (Scalar.cmpi .eq (BitVec.ofNat 32 (i 1).val) 0#32)) 0#32) = 1#1
theorem isFirst_iff : ∀ t : Fin cfg0.N, isFirst (grid0.coords t) ↔ t.val % 4 = 0 :=
  (fun t => by
    have ht : t.val < 16 := Nat.lt_of_lt_of_eq t.isLt N_0
    have e1 : (grid0.coords t 1).val = t.val / 1 % 4 := Pipeline.Grid.coords_val t 1 (by decide) rfl
    simp only [isFirst, e1]
    word_cmp
  : ∀ t : Fin grid0.N, isFirst (grid0.coords t) ↔ t.val % 4 = 0)

/-- The data of the pipeline on core `c`: the arrays as the region finds them; each operand's block unchanged, each result's as `outs` says. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t.val t.isLt).1
    | ⟨7, _⟩ => (outs m c t.val t.isLt).2.1
    | ⟨8, _⟩ => (outs m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outs m c t.val t.isLt).1 := by dsimp only [dats]
theorem after0_7 (c : Dev nD) (t : Fin cfg0.N) : (dats m 0 c).after 7 t = (outs m c t.val t.isLt).2.1 := by dsimp only [dats]
theorem after0_8 (c : Dev nD) (t : Fin cfg0.N) : (dats m 0 c).after 8 t = (outs m c t.val t.isLt).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- Past the first key block of a head the query gradients stand where the point before left them. -/
theorem before0_6 (c : Dev nD) (t : Fin cfg0.N) (h : ¬t.val % 4 = 0) (d) :
    (dats m 0 c).before 6 t d = (outs m c (t.val - 1) (Nat.lt_of_le_of_lt (Nat.sub_le _ _) t.isLt)).1 :=
  ((dats m 0 c).before_out_kept 6 rfl t (fun e => h (by rw [e]))
    (Bool.eq_false_iff.mpr fun e => by have := (flush0_6 _).mp e; simp only at this; omega) (fun _ => rfl) (fun _ _ => rfl) d).trans (after0_6 m c _)

/-- What the body finds at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

set_option maxHeartbeats 1600000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8]
  by_cases h0 : t.val % 4 = 0
  · rw [outs_first m c t h0]
    unfold pointAt
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_first c (grid0.coords t) _ _ _ _ _ _ _ _ _ _ _ _ _ _ _ _ _ _ ((isFirst_iff t).mpr h0) (iblk m c 0 t) (iblk m c 1 t) (iblk m c 2 t) (iblk m c 3 t) (iblk m c 4 t) (iblk m c 5 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [outs_later m c t h0]
    unfold pointAt
    simp only [before0_6 m c t h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((run_later c (grid0.coords t) _ _ _ _ _ _ _ _ _ _ _ _ _ _ _ _ _ _ (fun h => h0 ((isFirst_iff t).mp h)) (iblk m c 0 t) (iblk m c 1 t) (iblk m c 2 t) (iblk m c 3 t) (iblk m c 4 t) (iblk m c 5 t) (outs m c (t.val - 1) (Nat.lt_of_le_of_lt (Nat.sub_le _ _) t.isLt)).1) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: every array at what the points left in it, and every semaphore counter at zero. -/
theorem run_main_quiescent : θ_run defs (onTc (τ := τ) (main (F := F))) (s₀ m ρ) (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

end Cert.KernelIdeal.Body

end
-- ==== Proof.Frame.lean ====
/- Every run of the launch ends, the arguments unchanged and the semaphores at zero, whatever the numbers are. -/
module

public import proofs.«01_k».proof.Proof.Launch

@[expose] public section

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.AsPrinted.lean ====
/- The kernel as printed runs as its idealisation does: the two are the same program, read with other numbers. -/
module

public import proofs.«01_k».proof.Proof.Frame
public import proofs.«01_k».proof.Kernel
public import proofs.«01_k».proof.Proof.Gen.Kernel

@[expose] public section

set_option maxRecDepth 16384

noncomputable section

namespace Cert.Kernel.Same

open Idealize.ShloMosaic Idealize.ShloMosaic.TcCoe Idealize.SL.Sem

variable {F : FTy → Type} [FloatOps F]
local instance : Cert.Kernel.Facts := Cert.Kernel.Gen.facts
local instance : Cert.KernelIdeal.Facts := Cert.KernelIdeal.Gen.facts

set_option maxHeartbeats 4000000 in
theorem body_eq : Cert.Kernel.cc0_mla_attn_b (F := F) = Cert.KernelIdeal.cc0_mla_attn_b (F := F) := rfl

set_option maxHeartbeats 4000000 in
theorem table_eq : Cert.Kernel.defs₀ (F := F) = Cert.KernelIdeal.defs₀ (F := F) := by
  funext k l a
  revert a
  match l with
  | 0 =>
    rintro ⟨t, s⟩
    cases k <;> rfl
  | ⟨_ + 1, h⟩ => exact absurd h (Nat.not_lt.2 (Nat.le_add_left _ _))

theorem defs_eq : Cert.Kernel.defs (F := F) = Cert.KernelIdeal.defs (F := F) :=
  congrArg (Pipeline.defs (Cert.KernelIdeal.pcfgs (F := F))) table_eq

set_option maxHeartbeats 4000000 in
theorem main_eq : Cert.Kernel.main (F := F) = Cert.KernelIdeal.main (F := F) := rfl

variable (m : (ℓ : Loc Cert.Kernel.nD Cert.Kernel.τ Cert.Kernel.sig) → Buf (Elt F) ℓ) (ρ : Dev Cert.Kernel.nD → PrngReg)

open Cert.Kernel in
/-- Every run of the kernel as printed ends, the arguments unchanged and the semaphores at zero. -/
theorem frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq, main_eq]
  exact Cert.KernelIdeal.Body.frame m ρ

end Cert.Kernel.Same

end
-- ==== Proof.Products.lean ====
/- What the matrix products share, over arbitrary sizes: a whole buffer stored and loaded, the product of two matrices, and how the
   products of blocks make it up, in one step or as the sum of two. -/
module

public import Idealize.ShloMosaic.Lib.Pipeline.ValueKit
public import Idealize.ShloMosaic.Lib.Pipeline.Value
public import Idealize.ShloMosaic.Lib.StableHlo.ReadAt
public import Idealize.ShloMosaic.Lib.Pointwise
public import Idealize.ShloMosaic.Lib.Quiescent
public import Idealize.ShloMosaic.Lib.Claim

@[expose] public section

noncomputable section

namespace Cert.Products

open Idealize.ShloMosaic

/-! ## Whole buffers -/

/-- The offsets of a whole two-dimensional buffer are zero. -/
theorem offsets : (![0, 0] : Fin 2 → Nat) = fun _ => 0 := funext fun a => by fin_cases a <;> rfl

/-- A load of a whole two-dimensional buffer reads the buffer. -/
theorem load_whole {a b : Nat} {e : EltTy} (x : Vec Idealize.ShloMosaic.Ideal ⟨2, ![a, b]⟩ e)
    (inb : ∀ i, (![0, 0] : Fin 2 → Nat) i + (![a, b] : Fin 2 → Nat) i ≤ (![a, b] : Fin 2 → Nat) i) :
    View.ld x (Rect.unit (s := ⟨2, ![a, b]⟩) ![0, 0] ![a, b] inb) = x := View.ld_unit_zero (S := ⟨2, ![a, b]⟩) offsets inb x

/-- After one store of a whole two-dimensional buffer, the buffer holds what was stored. -/
theorem stored_whole {sig : RefSig} {κ : Kind} {sp : Space} {a b : Nat} {e : EltTy} (v : View sig κ sp ⟨2, ![a, b]⟩ e) (f : v.ty.Contents (Elt Idealize.ShloMosaic.Ideal))
    (inb : ∀ i, (![0, 0] : Fin 2 → Nat) i + (![a, b] : Fin 2 → Nat) i ≤ (![a, b] : Fin 2 → Nat) i) (w : Vec Idealize.ShloMosaic.Ideal ⟨2, ![a, b]⟩ e) :
    v.read (Elt Idealize.ShloMosaic.Ideal) (v.writes (Elt Idealize.ShloMosaic.Ideal) f [(⟨Rect.unit (s := ⟨2, ![a, b]⟩) ![0, 0] ![a, b] inb, w⟩ : View.Piece (Elt Idealize.ShloMosaic.Ideal) ⟨2, ![a, b]⟩ e)]) = w := by
  rw [View.read_writes_eq_canon]
  · exact View.canon_unit_zero (S := ⟨2, ![a, b]⟩) offsets inb w
  · exact fun y => ⟨_, List.mem_singleton_self _, View.mem_set_unit_zero (S := ⟨2, ![a, b]⟩) offsets inb y⟩

/-- The sum of two arrays at an index. -/
theorem add_at {S : Shape} {f : FTy} (a b : FVec Idealize.ShloMosaic.Ideal S f) (i : S.Idx) :
    addf a b i = (show EReal from a i) + (show EReal from b i) := rfl

/-! ## Products of matrices -/

variable {M N K tm tn n : Nat} {T : Type}

/-- The product of two matrices, the right one given by its columns. -/
def total (l : Fin M → Fin K → EReal) (g : Fin N → Fin K → EReal) (i : (⟨2, ![M, N]⟩ : Shape).Idx) : EReal := ∑ k : Fin K, l (i 0) k * g (i 1) k

/-- Blocks that hold whole rows and whole columns have the product's entries in one step. -/
theorem one_step (l : Fin M → Fin K → EReal) (g : Fin N → Fin K → EReal) (row : T → Fin tm → Fin M) (col : T → Fin tn → Fin N)
    (x : T → Fin tm → Fin K → EReal) (y : T → Fin tn → Fin K → EReal) (hx : ∀ t r k, x t r k = l (row t r) k) (hy : ∀ t j k, y t j k = g (col t j) k)
    (t : T) (r : Fin tm) (j : Fin tn) : ∑ k : Fin K, x t r k * y t j k = total l g (ix2 (row t r) (col t j)) :=
  Finset.sum_congr rfl fun k _ => congrArg₂ (· * ·) (hx t r k) (hy t j k)

/-- Blocks that hold the first and the second half of rows and columns have the product's entries in two steps. -/
theorem two_steps (l : Fin M → Fin K → EReal) (g : Fin N → Fin K → EReal) (row : T → Fin tm → Fin M) (col : T → Fin tn → Fin N) (place : T → Fin n → Fin K)
    (x : T → Fin tm → Fin n → EReal) (y : T → Fin tn → Fin n → EReal)
    (hx : ∀ t r k, x t r k = l (row t r) (place t k)) (hy : ∀ t j k, y t j k = g (col t j) (place t k)) (hK : K = n + n)
    (s t : T) (hr : row s = row t) (hc : col s = col t) (hs : ∀ k, (place s k).val = k.val) (ht : ∀ k, (place t k).val = n + k.val)
    (r : Fin tm) (j : Fin tn) :
    ∑ k : Fin n, x s r k * y s j k + ∑ k : Fin n, x t r k * y t j k = total l g (ix2 (row t r) (col t j)) := by
  subst hK
  refine Eq.trans ?_ (Fin.sum_univ_add fun k => l (row t r) k * g (col t j) k).symm
  refine congrArg₂ (· + ·) (Finset.sum_congr rfl fun k _ => ?_) (Finset.sum_congr rfl fun k _ => ?_)
  · rw [hx, hy, hr, hc, show place s k = Fin.castAdd n k from Fin.ext (hs k)]
  · rw [hx, hy, show place t k = Fin.natAdd n k from Fin.ext (ht k)]

end Cert.Products

end
-- ==== Proof.Up.lean ====
/- The product of the up projection: what the launch leaves, and the claims. -/
module

public import proofs.«01_k».proof.Proof.Products
public import proofs.«01_k».proof.Defs
public import proofs.«01_k».proof.Proof.Gen.UpIdeal
public import proofs.«01_k».proof.Proof.Gen.UpIdeal.Value
public import proofs.«01_k».proof.Proof.Gen.UpRefIdeal
public import proofs.«01_k».proof.Proof.Gen.UpRefIdeal.Run

@[expose] public section

set_option maxRecDepth 16384

noncomputable section

namespace Cert.UpIdeal.Product

open Idealize.ShloMosaic Idealize.ShloMosaic.TcCoe Idealize.ShloMosaic.Tactic Idealize.SL.Sem
open Cert.UpIdeal Cert.UpIdeal.Gen Cert.Products

variable (m : (ℓ : Loc nD τ sig) → Buf (Elt Ideal) ℓ)

/-- A point leaves the product of its two blocks. -/
theorem result (c : Dev nD) (t : Fin cfg0.N) : outsAt0 m c t = k0_pay1 (iblk m c 0 t) (iblk m c 1 t) := by
  unfold outsAt0
  generalize iblk m c 0 t = x, iblk m c 1 t = y
  unfold out0_A_2 kernelRun0_A
  dsimp only
  sl_unfold_words
  rw [stored_whole]
  simp only [View.readAt_eq_ld, Memref.IsWhole.read_unread, load_whole, shapeCast_self]

theorem block_at (x : Vec Ideal S512x1024 .bf16) (y : Vec Ideal S1024x1408 .bf16) (r : Fin 512) (j : Fin 1408) :
    k0_pay1 x y (ix2 r j) = ∑ k : Fin 1024, x (ix2 r k) * y (ix2 k j) := by
  pointwise [k0_pay1]

/-- The rows of the left matrix, the columns of the right one, and those that a point's blocks hold. -/
def left (c : Dev nD) (r : Fin 4096) (k : Fin 1024) : EReal := m ((c.tc : Thread nD τ).loc main_arg0) (ix2 r k)
def right (c : Dev nD) (j : Fin 5632) (k : Fin 1024) : EReal := m ((c.tc : Thread nD τ).loc main_arg1) (ix2 k j)
abbrev row (t : Fin cfg0.N) (r : Fin 512) : Fin 4096 := ⟨512 * (t.val / 4) + r.val, by have := t.isLt; have : cfg0.N = 32 := N_0; omega⟩
abbrev col (t : Fin cfg0.N) (j : Fin 1408) : Fin 5632 := ⟨1408 * (t.val % 4) + j.val, by omega⟩

theorem idx : ∀ t : Fin cfg0.N, win0_0.index t = ![t.val / 4, 0] ∧ win0_1.index t = ![0, t.val % 4] ∧ win0_2.index t = ![t.val / 4, t.val % 4] :=
  (by decide +kernel : ∀ t : Fin grid0.N, win0_0.index t = ![t.val / 4, 0] ∧ win0_1.index t = ![0, t.val % 4] ∧ win0_2.index t = ![t.val / 4, t.val % 4])

theorem operand0 (c : Dev nD) (i : S4096x1024.Idx) : V m c main_v0 i = m ((c.tc : Thread nD τ).loc main_arg0) i := by
  unfold V
  after_reads_at

theorem operand1 (c : Dev nD) (i : S1024x5632.Idx) : V m c main_v1 i = m ((c.tc : Thread nD τ).loc main_arg1) i := by
  unfold V
  after_reads_at

theorem left_at (c : Dev nD) (t : Fin cfg0.N) (r : Fin 512) (k : Fin 1024) : iblk m c 0 t (ix2 r k) = left m c (row t r) k :=
  (congrArg (V m c main_v0) (show (win0_0.blk t).view.emb (ix2 r k) = ix2 (row t r) k by blk_ext [(idx t).1])).trans (operand0 m c _)

theorem right_at (c : Dev nD) (t : Fin cfg0.N) (j : Fin 1408) (k : Fin 1024) : iblk m c 1 t (ix2 k j) = right m c (col t j) k :=
  (congrArg (V m c main_v1) (show (win0_1.blk t).view.emb (ix2 k j) = ix2 k (col t j) by blk_ext [(idx t).2.1])).trans (operand1 m c _)

theorem place_at (t : Fin cfg0.N) (r : Fin 512) (j : Fin 1408) : (win0_2.blk t).view.emb (ix2 r j) = ix2 (row t r) (col t j) := by
  blk_ext [(idx t).2.2]

/-- The launch leaves the product. -/
theorem final (c : Dev nD) : (dats m 0 c).arrAt 2 cfg0.N = total (left m c) (right m c) := by
  refine (dats m 0 c).arrAt_eq_of_covers 2 _ (by decide +kernel) fun t _ y => ?_
  blk_simp
  rw [after0_2, result, show y = ix2 (y 0) (y 1) by blk_ext]
  refine (block_at _ _ (y 0) (y 1)).trans ?_
  exact (one_step _ _ row col _ _ (left_at m c) (right_at m c) t _ _).trans (congrArg (total (left m c) (right m c)) (place_at t _ _)).symm

/-- The reference's product at an index. -/
theorem product_at (x : FVec Ideal S4096x1024 .f32) (y : FVec Ideal S1024x5632 .f32) (i : S4096x5632.Idx) :
    Host.dotGeneral UpRefIdeal.dot_S4096x1024_S1024x5632_S4096x5632_1_0_0_1_n_n none x y i = total (fun r k => x (ix2 r k)) (fun j k => y (ix2 k j)) i := by
  rw [show i = ix2 (i 0) (i 1) by blk_ext]
  unfold total
  pointwise

theorem algebraic : algebraic_UpIdeal_UpRefIdeal (hUpIdeal := Cert.UpIdeal.Gen.facts) (hUpRefIdeal := Cert.UpRefIdeal.Gen.facts) := fun m ρ m' ρ' _ h =>
  ⟨fun c => total (left m c) (right m c), (θ_run _ _ _).mono (fun _ hr c => ⟨(hr c).1.trans (final m c), (hr c).2⟩) (Cert.UpIdeal.Value.run_blocks m ρ),
    (θ_run _ _ _).mono (fun _ hr c => ⟨(hr c).1.trans (by rw [(h c).1, (h c).2]; exact funext fun i => product_at _ _ i), (hr c).2⟩) (Cert.UpRefIdeal.Value.run m' ρ')⟩

theorem reference_frame : quiescent_UpRefIdeal (hUpRefIdeal := Cert.UpRefIdeal.Gen.facts) := fun m ρ _ =>
  (θ_run _ _ _).mono (fun _ h => ⟨fun c => (h c).2, sem_eq_zero_of_no_sems (by decide) _⟩) (Cert.UpRefIdeal.Value.run m ρ)

end Cert.UpIdeal.Product

end
-- ==== Proof.UpDx.lean ====
/- The product that carries the gradient back through the up projection: what the launch leaves, and the claims. -/
module

public import proofs.«01_k».proof.Proof.Products
public import proofs.«01_k».proof.Defs
public import proofs.«01_k».proof.Proof.Gen.UpDxIdeal
public import proofs.«01_k».proof.Proof.Gen.UpDxIdeal.Value
public import proofs.«01_k».proof.Proof.Gen.UpDxRefIdeal
public import proofs.«01_k».proof.Proof.Gen.UpDxRefIdeal.Run

@[expose] public section

set_option maxRecDepth 16384

noncomputable section

namespace Cert.UpDxIdeal.Product

open Idealize.ShloMosaic Idealize.ShloMosaic.TcCoe Idealize.ShloMosaic.Tactic Idealize.SL.Sem
open Cert.UpDxIdeal Cert.UpDxIdeal.Gen Cert.Products

variable (m : (ℓ : Loc nD τ sig) → Buf (Elt Ideal) ℓ)

/-- The first point of a pair leaves the product of its blocks in the scratch; -/
theorem first (c : Dev nD) (t : Fin cfg0.N) (ht : t.val % 2 = 0) : (outsAt0 m c t.val t.isLt).2 = k0_pay1 (iblk m c 0 t) (iblk m c 1 t) := by
  rw [outsAt0_A m c t ht (by omega)]
  dsimp only
  generalize iblk m c 0 t = x, iblk m c 1 t = y
  unfold sout0_A_0 kernelRun0_A
  dsimp only
  sl_unfold_words
  rw [stored_whole]
  unfold k0_pay2
  simp only [View.readAt_eq_ld, Memref.IsWhole.read_unread, load_whole, shapeCast_self]

/-- the second adds the product of its own. -/
theorem second (c : Dev nD) (t : Fin cfg0.N) (ht : t.val % 2 = 1) : (outsAt0 m c t.val t.isLt).1
    = addf (outsAt0 m c (t.val - 1) (Nat.lt_of_le_of_lt (Nat.sub_le _ _) t.isLt)).2 (k0_pay1 (iblk m c 0 t) (iblk m c 1 t)) := by
  rw [outsAt0_B m c t (by omega) ht]
  dsimp only
  generalize iblk m c 0 t = x, iblk m c 1 t = y, (outsAt0 m c (t.val - 1) _).2 = z
  unfold out0_B_2 kernelRun0_B
  dsimp only
  sl_unfold_words
  rw [stored_whole]
  unfold k0_pay4
  simp only [View.readAt_eq_ld, Memref.IsWhole.read_unread, load_whole, shapeCast_self]
  exact congrArg (addf · _) ((Memref.isWhole_whole cc0_scratch0).read_unread z)

theorem block_at (x : Vec Ideal S512x2816 .bf16) (y : Vec Ideal S1024x2816 .bf16) (r : Fin 512) (j : Fin 1024) :
    k0_pay1 x y (ix2 r j) = ∑ k : Fin 2816, x (ix2 r k) * y (ix2 j k) := by
  pointwise [k0_pay1]

/-- The rows of the left matrix, the columns of the right one (rows of the weights), and those that a point's blocks hold: all columns, half of the places. -/
def left (c : Dev nD) (r : Fin 4096) (k : Fin 5632) : EReal := m ((c.tc : Thread nD τ).loc main_arg2) (ix2 r k)
def right (c : Dev nD) (j : Fin 1024) (k : Fin 5632) : EReal := m ((c.tc : Thread nD τ).loc main_arg1) (ix2 j k)
abbrev row (t : Fin cfg0.N) (r : Fin 512) : Fin 4096 := ⟨512 * (t.val / 2) + r.val, by have := t.isLt; have : cfg0.N = 16 := N_0; omega⟩
abbrev place (t : Fin cfg0.N) (k : Fin 2816) : Fin 5632 := ⟨2816 * (t.val % 2) + k.val, by omega⟩

theorem idx : ∀ t : Fin cfg0.N, win0_0.index t = ![t.val / 2, t.val % 2] ∧ win0_1.index t = ![0, t.val % 2] ∧ win0_2.index t = ![t.val / 2, 0] :=
  (by decide +kernel : ∀ t : Fin grid0.N, win0_0.index t = ![t.val / 2, t.val % 2] ∧ win0_1.index t = ![0, t.val % 2] ∧ win0_2.index t = ![t.val / 2, 0])

theorem operand0 (c : Dev nD) (i : S4096x5632.Idx) : V m c main_v0 i = m ((c.tc : Thread nD τ).loc main_arg2) i := by
  unfold V
  after_reads_at

theorem operand1 (c : Dev nD) (i : S1024x5632.Idx) : V m c main_v1 i = m ((c.tc : Thread nD τ).loc main_arg1) i := by
  unfold V
  after_reads_at

theorem left_at (c : Dev nD) (t : Fin cfg0.N) (r : Fin 512) (k : Fin 2816) : iblk m c 0 t (ix2 r k) = left m c (row t r) (place t k) :=
  (congrArg (V m c main_v0) (show (win0_0.blk t).view.emb (ix2 r k) = ix2 (row t r) (place t k) by blk_ext [(idx t).1])).trans (operand0 m c _)

theorem right_at (c : Dev nD) (t : Fin cfg0.N) (j : Fin 1024) (k : Fin 2816) : iblk m c 1 t (ix2 j k) = right m c j (place t k) :=
  (congrArg (V m c main_v1) (show (win0_1.blk t).view.emb (ix2 j k) = ix2 j (place t k) by blk_ext [(idx t).2.1])).trans (operand1 m c _)

theorem place_at (t : Fin cfg0.N) (r : Fin 512) (j : Fin 1024) : (win0_2.blk t).view.emb (ix2 r j) = ix2 (row t r) j := by
  blk_ext [(idx t).2.2]

/-- A pair of points leaves its block of the product. -/
theorem pair_at (c : Dev nD) (t : Fin cfg0.N) (ht : t.val % 2 = 1) (r : Fin 512) (j : Fin 1024) :
    (outsAt0 m c t.val t.isLt).1 (ix2 r j) = total (left m c) (right m c) (ix2 (row t r) j) := by
  obtain ⟨s, hs⟩ : ∃ s : Fin cfg0.N, s.val = t.val - 1 := ⟨⟨t.val - 1, Nat.lt_of_le_of_lt (Nat.sub_le _ _) t.isLt⟩, rfl⟩
  have hf := first m c s (by omega)
  simp only [hs] at hf
  rw [second m c t ht, hf, add_at, block_at, block_at]
  exact two_steps _ _ row (fun _ j => j) place _ _ (left_at m c) (right_at m c) rfl s t (funext fun r => Fin.ext (by dsimp only; omega)) rfl
    (fun k => by dsimp only; omega) (fun k => by dsimp only; omega) r j

/-- The launch leaves the product. -/
theorem final (c : Dev nD) : (dats m 0 c).arrAt 2 cfg0.N = total (left m c) (right m c) := by
  refine (dats m 0 c).arrAt_eq_of_covers 2 _ (by decide +kernel) fun t hf y => ?_
  blk_simp
  rw [after0_2, show y = ix2 (y 0) (y 1) by blk_ext]
  exact (pair_at m c t ((flush0_2 t).mp hf) _ _).trans (congrArg (total (left m c) (right m c)) (place_at t _ _)).symm

/-- The reference's product at an index. -/
theorem product_at (x : FVec Ideal S4096x5632 .f32) (y : FVec Ideal S1024x5632 .f32) (i : S4096x1024.Idx) :
    Host.dotGeneral UpDxRefIdeal.dot_S4096x5632_S1024x5632_S4096x1024_1_1_0_0_n_n none x y i = total (fun r k => x (ix2 r k)) (fun j k => y (ix2 j k)) i := by
  rw [show i = ix2 (i 0) (i 1) by blk_ext]
  unfold total
  pointwise

theorem algebraic : algebraic_UpDxIdeal_UpDxRefIdeal (hUpDxIdeal := Cert.UpDxIdeal.Gen.facts) (hUpDxRefIdeal := Cert.UpDxRefIdeal.Gen.facts) := fun m ρ m' ρ' _ h =>
  ⟨fun c => total (left m c) (right m c), (θ_run _ _ _).mono (fun _ hr c => ⟨(hr c).1.trans (final m c), (hr c).2⟩) (Cert.UpDxIdeal.Value.run_blocks m ρ),
    (θ_run _ _ _).mono (fun _ hr c => ⟨(hr c).1.trans (by rw [(h c).2.1, (h c).2.2]; exact funext fun i => product_at _ _ i), (hr c).2⟩) (Cert.UpDxRefIdeal.Value.run m' ρ')⟩

theorem reference_frame : quiescent_UpDxRefIdeal (hUpDxRefIdeal := Cert.UpDxRefIdeal.Gen.facts) := fun m ρ _ =>
  (θ_run _ _ _).mono (fun _ h => ⟨fun c => (h c).2, sem_eq_zero_of_no_sems (by decide) _⟩) (Cert.UpDxRefIdeal.Value.run m ρ)

end Cert.UpDxIdeal.Product

end
-- ==== Proof.UpDw.lean ====
/- The product that is the gradient of the up projection: what the launch leaves, and the claims. -/
module

public import proofs.«01_k».proof.Proof.Products
public import proofs.«01_k».proof.Defs
public import proofs.«01_k».proof.Proof.Gen.UpDwIdeal
public import proofs.«01_k».proof.Proof.Gen.UpDwIdeal.Value
public import proofs.«01_k».proof.Proof.Gen.UpDwRefIdeal
public import proofs.«01_k».proof.Proof.Gen.UpDwRefIdeal.Run

@[expose] public section

set_option maxRecDepth 16384

noncomputable section

namespace Cert.UpDwIdeal.Product

open Idealize.ShloMosaic Idealize.ShloMosaic.TcCoe Idealize.ShloMosaic.Tactic Idealize.SL.Sem
open Cert.UpDwIdeal Cert.UpDwIdeal.Gen Cert.Products

variable (m : (ℓ : Loc nD τ sig) → Buf (Elt Ideal) ℓ)

/-- The first point of a pair leaves the product of its blocks in the scratch; -/
theorem first (c : Dev nD) (t : Fin cfg0.N) (ht : t.val % 2 = 0) : (outsAt0 m c t.val t.isLt).2 = k0_pay1 (iblk m c 0 t) (iblk m c 1 t) := by
  rw [outsAt0_A m c t ht (by omega)]
  dsimp only
  generalize iblk m c 0 t = x, iblk m c 1 t = y
  unfold sout0_A_0 kernelRun0_A
  dsimp only
  sl_unfold_words
  rw [stored_whole]
  unfold k0_pay2
  simp only [View.readAt_eq_ld, Memref.IsWhole.read_unread, load_whole, shapeCast_self]

/-- the second adds the product of its own. -/
theorem second (c : Dev nD) (t : Fin cfg0.N) (ht : t.val % 2 = 1) : (outsAt0 m c t.val t.isLt).1
    = addf (outsAt0 m c (t.val - 1) (Nat.lt_of_le_of_lt (Nat.sub_le _ _) t.isLt)).2 (k0_pay1 (iblk m c 0 t) (iblk m c 1 t)) := by
  rw [outsAt0_B m c t (by omega) ht]
  dsimp only
  generalize iblk m c 0 t = x, iblk m c 1 t = y, (outsAt0 m c (t.val - 1) _).2 = z
  unfold out0_B_2 kernelRun0_B
  dsimp only
  sl_unfold_words
  rw [stored_whole]
  unfold k0_pay4
  simp only [View.readAt_eq_ld, Memref.IsWhole.read_unread, load_whole, shapeCast_self]
  exact congrArg (addf · _) ((Memref.isWhole_whole cc0_scratch0).read_unread z)

theorem block_at (x : Vec Ideal S2048x512 .bf16) (y : Vec Ideal S2048x1408 .bf16) (r : Fin 512) (j : Fin 1408) :
    k0_pay1 x y (ix2 r j) = ∑ k : Fin 2048, x (ix2 k r) * y (ix2 k j) := by
  pointwise [k0_pay1]

/-- The rows of the left matrix, the columns of the right one, and those that a point's blocks hold. -/
def left (c : Dev nD) (r : Fin 1024) (k : Fin 4096) : EReal := m ((c.tc : Thread nD τ).loc main_arg0) (ix2 k r)
def right (c : Dev nD) (j : Fin 5632) (k : Fin 4096) : EReal := m ((c.tc : Thread nD τ).loc main_arg2) (ix2 k j)
abbrev row (t : Fin cfg0.N) (r : Fin 512) : Fin 1024 := ⟨512 * (t.val / 8) + r.val, by have := t.isLt; have : cfg0.N = 16 := N_0; omega⟩
abbrev col (t : Fin cfg0.N) (j : Fin 1408) : Fin 5632 := ⟨1408 * (t.val / 2 % 4) + j.val, by omega⟩
abbrev place (t : Fin cfg0.N) (k : Fin 2048) : Fin 4096 := ⟨2048 * (t.val % 2) + k.val, by omega⟩

theorem idx : ∀ t : Fin cfg0.N, win0_0.index t = ![t.val % 2, t.val / 8] ∧ win0_1.index t = ![t.val % 2, t.val / 2 % 4] ∧ win0_2.index t = ![t.val / 8, t.val / 2 % 4] :=
  (by decide +kernel : ∀ t : Fin grid0.N, win0_0.index t = ![t.val % 2, t.val / 8] ∧ win0_1.index t = ![t.val % 2, t.val / 2 % 4] ∧ win0_2.index t = ![t.val / 8, t.val / 2 % 4])

theorem operand0 (c : Dev nD) (i : S4096x1024.Idx) : V m c main_v0 i = m ((c.tc : Thread nD τ).loc main_arg0) i := by
  unfold V
  after_reads_at

theorem operand1 (c : Dev nD) (i : S4096x5632.Idx) : V m c main_v1 i = m ((c.tc : Thread nD τ).loc main_arg2) i := by
  unfold V
  after_reads_at

theorem left_at (c : Dev nD) (t : Fin cfg0.N) (r : Fin 512) (k : Fin 2048) : iblk m c 0 t (ix2 k r) = left m c (row t r) (place t k) :=
  (congrArg (V m c main_v0) (show (win0_0.blk t).view.emb (ix2 k r) = ix2 (place t k) (row t r) by blk_ext [(idx t).1])).trans (operand0 m c _)

theorem right_at (c : Dev nD) (t : Fin cfg0.N) (j : Fin 1408) (k : Fin 2048) : iblk m c 1 t (ix2 k j) = right m c (col t j) (place t k) :=
  (congrArg (V m c main_v1) (show (win0_1.blk t).view.emb (ix2 k j) = ix2 (place t k) (col t j) by blk_ext [(idx t).2.1])).trans (operand1 m c _)

theorem place_at (t : Fin cfg0.N) (r : Fin 512) (j : Fin 1408) : (win0_2.blk t).view.emb (ix2 r j) = ix2 (row t r) (col t j) := by
  blk_ext [(idx t).2.2]

/-- A pair of points leaves its block of the product. -/
theorem pair_at (c : Dev nD) (t : Fin cfg0.N) (ht : t.val % 2 = 1) (r : Fin 512) (j : Fin 1408) :
    (outsAt0 m c t.val t.isLt).1 (ix2 r j) = total (left m c) (right m c) (ix2 (row t r) (col t j)) := by
  obtain ⟨s, hs⟩ : ∃ s : Fin cfg0.N, s.val = t.val - 1 := ⟨⟨t.val - 1, Nat.lt_of_le_of_lt (Nat.sub_le _ _) t.isLt⟩, rfl⟩
  have hf := first m c s (by omega)
  simp only [hs] at hf
  rw [second m c t ht, hf, add_at, block_at, block_at]
  exact two_steps _ _ row col place _ _ (left_at m c) (right_at m c) rfl s t (funext fun r => Fin.ext (by dsimp only; omega)) (funext fun j => Fin.ext (by dsimp only; omega))
    (fun k => by dsimp only; omega) (fun k => by dsimp only; omega) r j

/-- The launch leaves the product. -/
theorem final (c : Dev nD) : (dats m 0 c).arrAt 2 cfg0.N = total (left m c) (right m c) := by
  refine (dats m 0 c).arrAt_eq_of_covers 2 _ (by decide +kernel) fun t hf y => ?_
  blk_simp
  rw [after0_2, show y = ix2 (y 0) (y 1) by blk_ext]
  exact (pair_at m c t ((flush0_2 t).mp hf) _ _).trans (congrArg (total (left m c) (right m c)) (place_at t _ _)).symm

/-- The reference's product at an index. -/
theorem product_at (x : FVec Ideal S4096x5632 .f32) (y : FVec Ideal S4096x1024 .f32) (i : S1024x5632.Idx) :
    transpose S1024x5632 [1, 0] (Host.dotGeneral UpDwRefIdeal.dot_S4096x5632_S4096x1024_S5632x1024_0_0_1_1_n_n none x y) UpDwRefIdeal.Gen.transposes_S5632x1024_S1024x5632_1_0 i
      = total (fun r k => y (ix2 k r)) (fun j k => x (ix2 k j)) i := by
  rw [show i = ix2 (i 0) (i 1) by blk_ext]
  unfold total
  pointwise
  exact Finset.sum_congr rfl fun k _ => mul_comm _ _

theorem algebraic : algebraic_UpDwIdeal_UpDwRefIdeal (hUpDwIdeal := Cert.UpDwIdeal.Gen.facts) (hUpDwRefIdeal := Cert.UpDwRefIdeal.Gen.facts) := fun m ρ m' ρ' _ h =>
  ⟨fun c => total (left m c) (right m c), (θ_run _ _ _).mono (fun _ hr c => ⟨(hr c).1.trans (final m c), (hr c).2⟩) (Cert.UpDwIdeal.Value.run_blocks m ρ),
    (θ_run _ _ _).mono (fun _ hr c => ⟨(hr c).1.trans (by rw [(h c).1, (h c).2.2]; exact funext fun i => product_at _ _ i), (hr c).2⟩) (Cert.UpDwRefIdeal.Value.run m' ρ')⟩

theorem reference_frame : quiescent_UpDwRefIdeal (hUpDwRefIdeal := Cert.UpDwRefIdeal.Gen.facts) := fun m ρ _ =>
  (θ_run _ _ _).mono (fun _ h => ⟨fun c => (h c).2, sem_eq_zero_of_no_sems (by decide) _⟩) (Cert.UpDwRefIdeal.Value.run m ρ)

end Cert.UpDwIdeal.Product

end
-- ==== Proof.Down.lean ====
/- The product of the down projection: what the launch leaves, and the claims. -/
module

public import proofs.«01_k».proof.Proof.Products
public import proofs.«01_k».proof.Defs
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Run

@[expose] public section

set_option maxRecDepth 16384

noncomputable section

namespace Cert.DownIdeal.Product

open Idealize.ShloMosaic Idealize.ShloMosaic.TcCoe Idealize.ShloMosaic.Tactic Idealize.SL.Sem
open Cert.DownIdeal Cert.DownIdeal.Gen Cert.Products

variable (m : (ℓ : Loc nD τ sig) → Buf (Elt Ideal) ℓ)

/-- A point leaves the product of its two blocks. -/
theorem result (c : Dev nD) (t : Fin cfg0.N) : outsAt0 m c t = k0_pay1 (iblk m c 0 t) (iblk m c 1 t) := by
  unfold outsAt0
  generalize iblk m c 0 t = x, iblk m c 1 t = y
  unfold out0_A_2 kernelRun0_A
  dsimp only
  sl_unfold_words
  rw [stored_whole]
  simp only [View.readAt_eq_ld, Memref.IsWhole.read_unread, load_whole, shapeCast_self]

theorem block_at (x : Vec Ideal S512x2816 .bf16) (y : Vec Ideal S2816x1024 .bf16) (r : Fin 512) (j : Fin 1024) :
    k0_pay1 x y (ix2 r j) = ∑ k : Fin 2816, x (ix2 r k) * y (ix2 k j) := by
  pointwise [k0_pay1]

/-- The rows of the left matrix, the columns of the right one, and the rows that a point's blocks hold; the weights are one block. -/
def left (c : Dev nD) (r : Fin 4096) (k : Fin 2816) : EReal := m ((c.tc : Thread nD τ).loc main_arg0) (ix2 r k)
def right (c : Dev nD) (j : Fin 1024) (k : Fin 2816) : EReal := m ((c.tc : Thread nD τ).loc main_arg1) (ix2 k j)
abbrev row (t : Fin cfg0.N) (r : Fin 512) : Fin 4096 := ⟨512 * t.val + r.val, by have := t.isLt; have : cfg0.N = 8 := N_0; omega⟩

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem operand0 (c : Dev nD) (i : S4096x2816.Idx) : V m c main_v0 i = m ((c.tc : Thread nD τ).loc main_arg0) i := by
  unfold V
  after_reads_at

theorem operand1 (c : Dev nD) (i : S2816x1024.Idx) : V m c main_v1 i = m ((c.tc : Thread nD τ).loc main_arg1) i := by
  unfold V
  after_reads_at

theorem left_at (c : Dev nD) (t : Fin cfg0.N) (r : Fin 512) (k : Fin 2816) : iblk m c 0 t (ix2 r k) = left m c (row t r) k :=
  (congrArg (V m c main_v0) (show (win0_0.blk t).view.emb (ix2 r k) = ix2 (row t r) k by blk_ext [(idx t).1])).trans (operand0 m c _)

theorem right_at (c : Dev nD) (t : Fin cfg0.N) (j : Fin 1024) (k : Fin 2816) : iblk m c 1 t (ix2 k j) = right m c j k :=
  (congrArg (V m c main_v1) (show (win0_1.blk t).view.emb (ix2 k j) = ix2 k j by blk_ext [(idx t).2.1])).trans (operand1 m c _)

theorem place_at (t : Fin cfg0.N) (r : Fin 512) (j : Fin 1024) : (win0_2.blk t).view.emb (ix2 r j) = ix2 (row t r) j := by
  blk_ext [(idx t).2.2]

/-- The launch leaves the product. -/
theorem final (c : Dev nD) : (dats m 0 c).arrAt 2 cfg0.N = total (left m c) (right m c) := by
  refine (dats m 0 c).arrAt_eq_of_covers 2 _ (by decide +kernel) fun t _ y => ?_
  blk_simp
  rw [after0_2, result, show y = ix2 (y 0) (y 1) by blk_ext]
  refine (block_at _ _ (y 0) (y 1)).trans ?_
  exact (one_step _ _ row (fun _ j => j) _ _ (left_at m c) (right_at m c) t _ _).trans (congrArg (total (left m c) (right m c)) (place_at t _ _)).symm

/-- The reference's product at an index. -/
theorem product_at (x : FVec Ideal S4096x2816 .f32) (y : FVec Ideal S2816x1024 .f32) (i : S4096x1024.Idx) :
    Host.dotGeneral DownRefIdeal.dot_S4096x2816_S2816x1024_S4096x1024_1_0_0_1_n_n none x y i = total (fun r k => x (ix2 r k)) (fun j k => y (ix2 k j)) i := by
  rw [show i = ix2 (i 0) (i 1) by blk_ext]
  unfold total
  pointwise

theorem algebraic : algebraic_DownIdeal_DownRefIdeal (hDownIdeal := Cert.DownIdeal.Gen.facts) (hDownRefIdeal := Cert.DownRefIdeal.Gen.facts) := fun m ρ m' ρ' _ h =>
  ⟨fun c => total (left m c) (right m c), (θ_run _ _ _).mono (fun _ hr c => ⟨(hr c).1.trans (final m c), (hr c).2⟩) (Cert.DownIdeal.Value.run_blocks m ρ),
    (θ_run _ _ _).mono (fun _ hr c => ⟨(hr c).1.trans (by rw [(h c).1, (h c).2]; exact funext fun i => product_at _ _ i), (hr c).2⟩) (Cert.DownRefIdeal.Value.run m' ρ')⟩

theorem reference_frame : quiescent_DownRefIdeal (hDownRefIdeal := Cert.DownRefIdeal.Gen.facts) := fun m ρ _ =>
  (θ_run _ _ _).mono (fun _ h => ⟨fun c => (h c).2, sem_eq_zero_of_no_sems (by decide) _⟩) (Cert.DownRefIdeal.Value.run m ρ)

end Cert.DownIdeal.Product

end
-- ==== Proof.DownDx.lean ====
/- The product that carries the gradient back through the down projection: what the launch leaves, and the claims. -/
module

public import proofs.«01_k».proof.Proof.Products
public import proofs.«01_k».proof.Defs
public import proofs.«01_k».proof.Proof.Gen.DownDxIdeal
public import proofs.«01_k».proof.Proof.Gen.DownDxIdeal.Value
public import proofs.«01_k».proof.Proof.Gen.DownDxRefIdeal
public import proofs.«01_k».proof.Proof.Gen.DownDxRefIdeal.Run

@[expose] public section

set_option maxRecDepth 16384

noncomputable section

namespace Cert.DownDxIdeal.Product

open Idealize.ShloMosaic Idealize.ShloMosaic.TcCoe Idealize.ShloMosaic.Tactic Idealize.SL.Sem
open Cert.DownDxIdeal Cert.DownDxIdeal.Gen Cert.Products

variable (m : (ℓ : Loc nD τ sig) → Buf (Elt Ideal) ℓ)

/-- A point leaves the product of its two blocks. -/
theorem result (c : Dev nD) (t : Fin cfg0.N) : outsAt0 m c t = k0_pay1 (iblk m c 0 t) (iblk m c 1 t) := by
  unfold outsAt0
  generalize iblk m c 0 t = x, iblk m c 1 t = y
  unfold out0_A_2 kernelRun0_A
  dsimp only
  sl_unfold_words
  rw [stored_whole]
  simp only [View.readAt_eq_ld, Memref.IsWhole.read_unread, load_whole, shapeCast_self]

/-- The rounding to bf16 that the body ends with is the identity over the reals. -/
theorem block_at (x : Vec Ideal S512x1024 .bf16) (y : Vec Ideal S1408x1024 .bf16) (r : Fin 512) (j : Fin 1408) :
    k0_pay1 x y (ix2 r j) = ∑ k : Fin 1024, x (ix2 r k) * y (ix2 j k) := by
  pointwise [k0_pay1]

/-- The rows of the left matrix, the columns of the right one (rows of the weights), and those that a point's blocks hold. -/
def left (c : Dev nD) (r : Fin 4096) (k : Fin 1024) : EReal := m ((c.tc : Thread nD τ).loc main_arg2) (ix2 r k)
def right (c : Dev nD) (j : Fin 2816) (k : Fin 1024) : EReal := m ((c.tc : Thread nD τ).loc main_arg1) (ix2 j k)
abbrev row (t : Fin cfg0.N) (r : Fin 512) : Fin 4096 := ⟨512 * (t.val / 2) + r.val, by have := t.isLt; have : cfg0.N = 16 := N_0; omega⟩
abbrev col (t : Fin cfg0.N) (j : Fin 1408) : Fin 2816 := ⟨1408 * (t.val % 2) + j.val, by omega⟩

theorem idx : ∀ t : Fin cfg0.N, win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2])

theorem operand0 (c : Dev nD) (i : S4096x1024.Idx) : V m c main_v0 i = m ((c.tc : Thread nD τ).loc main_arg2) i := by
  unfold V
  after_reads_at

theorem operand1 (c : Dev nD) (i : S2816x1024.Idx) : V m c main_v1 i = m ((c.tc : Thread nD τ).loc main_arg1) i := by
  unfold V
  after_reads_at

theorem left_at (c : Dev nD) (t : Fin cfg0.N) (r : Fin 512) (k : Fin 1024) : iblk m c 0 t (ix2 r k) = left m c (row t r) k :=
  (congrArg (V m c main_v0) (show (win0_0.blk t).view.emb (ix2 r k) = ix2 (row t r) k by blk_ext [(idx t).1])).trans (operand0 m c _)

theorem right_at (c : Dev nD) (t : Fin cfg0.N) (j : Fin 1408) (k : Fin 1024) : iblk m c 1 t (ix2 j k) = right m c (col t j) k :=
  (congrArg (V m c main_v1) (show (win0_1.blk t).view.emb (ix2 j k) = ix2 (col t j) k by blk_ext [(idx t).2.1])).trans (operand1 m c _)

theorem place_at (t : Fin cfg0.N) (r : Fin 512) (j : Fin 1408) : (win0_2.blk t).view.emb (ix2 r j) = ix2 (row t r) (col t j) := by
  blk_ext [(idx t).2.2]

/-- The launch leaves the product. -/
theorem final (c : Dev nD) : (dats m 0 c).arrAt 2 cfg0.N = total (left m c) (right m c) := by
  refine (dats m 0 c).arrAt_eq_of_covers 2 _ (by decide +kernel) fun t _ y => ?_
  blk_simp
  rw [after0_2, result, show y = ix2 (y 0) (y 1) by blk_ext]
  refine (block_at _ _ (y 0) (y 1)).trans ?_
  exact (one_step _ _ row col _ _ (left_at m c) (right_at m c) t _ _).trans (congrArg (total (left m c) (right m c)) (place_at t _ _)).symm

/-- The reference's rounded product at an index. -/
theorem product_at (x : FVec Ideal S4096x1024 .f32) (y : FVec Ideal S2816x1024 .f32) (i : S4096x2816.Idx) :
    truncf .bf16 (Host.dotGeneral DownDxRefIdeal.dot_S4096x1024_S2816x1024_S4096x2816_1_1_0_0_n_n none x y) DownDxRefIdeal.Gen.bitsLt_bf16_f32 i
      = total (fun r k => x (ix2 r k)) (fun j k => y (ix2 j k)) i := by
  rw [show i = ix2 (i 0) (i 1) by blk_ext]
  unfold total
  pointwise

theorem algebraic : algebraic_DownDxIdeal_DownDxRefIdeal (hDownDxIdeal := Cert.DownDxIdeal.Gen.facts) (hDownDxRefIdeal := Cert.DownDxRefIdeal.Gen.facts) := fun m ρ m' ρ' _ h =>
  ⟨fun c => total (left m c) (right m c), (θ_run _ _ _).mono (fun _ hr c => ⟨(hr c).1.trans (final m c), (hr c).2⟩) (Cert.DownDxIdeal.Value.run_blocks m ρ),
    (θ_run _ _ _).mono (fun _ hr c => ⟨(hr c).1.trans (by rw [(h c).2.1, (h c).2.2]; exact funext fun i => product_at _ _ i), (hr c).2⟩) (Cert.DownDxRefIdeal.Value.run m' ρ')⟩

theorem reference_frame : quiescent_DownDxRefIdeal (hDownDxRefIdeal := Cert.DownDxRefIdeal.Gen.facts) := fun m ρ _ =>
  (θ_run _ _ _).mono (fun _ h => ⟨fun c => (h c).2, sem_eq_zero_of_no_sems (by decide) _⟩) (Cert.DownDxRefIdeal.Value.run m ρ)

end Cert.DownDxIdeal.Product

end
-- ==== Proof.DownDw.lean ====
/- The product that is the gradient of the down projection: what the launch leaves, and the claims. -/
module

public import proofs.«01_k».proof.Proof.Products
public import proofs.«01_k».proof.Defs
public import proofs.«01_k».proof.Proof.Gen.DownDwIdeal
public import proofs.«01_k».proof.Proof.Gen.DownDwIdeal.Value
public import proofs.«01_k».proof.Proof.Gen.DownDwRefIdeal
public import proofs.«01_k».proof.Proof.Gen.DownDwRefIdeal.Run

@[expose] public section

set_option maxRecDepth 16384

noncomputable section

namespace Cert.DownDwIdeal.Product

open Idealize.ShloMosaic Idealize.ShloMosaic.TcCoe Idealize.ShloMosaic.Tactic Idealize.SL.Sem
open Cert.DownDwIdeal Cert.DownDwIdeal.Gen Cert.Products

variable (m : (ℓ : Loc nD τ sig) → Buf (Elt Ideal) ℓ)

/-- The first point of a pair leaves the product of its blocks in the scratch; -/
theorem first (c : Dev nD) (t : Fin cfg0.N) (ht : t.val % 2 = 0) : (outsAt0 m c t.val t.isLt).2 = k0_pay1 (iblk m c 0 t) (iblk m c 1 t) := by
  rw [outsAt0_A m c t ht (by omega)]
  dsimp only
  generalize iblk m c 0 t = x, iblk m c 1 t = y
  unfold sout0_A_0 kernelRun0_A
  dsimp only
  sl_unfold_words
  rw [stored_whole]
  unfold k0_pay2
  simp only [View.readAt_eq_ld, Memref.IsWhole.read_unread, load_whole, shapeCast_self]

/-- the second adds the product of its own. -/
theorem second (c : Dev nD) (t : Fin cfg0.N) (ht : t.val % 2 = 1) : (outsAt0 m c t.val t.isLt).1
    = addf (outsAt0 m c (t.val - 1) (Nat.lt_of_le_of_lt (Nat.sub_le _ _) t.isLt)).2 (k0_pay1 (iblk m c 0 t) (iblk m c 1 t)) := by
  rw [outsAt0_B m c t (by omega) ht]
  dsimp only
  generalize iblk m c 0 t = x, iblk m c 1 t = y, (outsAt0 m c (t.val - 1) _).2 = z
  unfold out0_B_2 kernelRun0_B
  dsimp only
  sl_unfold_words
  rw [stored_whole]
  unfold k0_pay4
  simp only [View.readAt_eq_ld, Memref.IsWhole.read_unread, load_whole, shapeCast_self]
  exact congrArg (addf · _) ((Memref.isWhole_whole cc0_scratch0).read_unread z)

theorem block_at (x : Vec Ideal S2048x256 .bf16) (y : Vec Ideal S2048x1024 .bf16) (r : Fin 256) (j : Fin 1024) :
    k0_pay1 x y (ix2 r j) = ∑ k : Fin 2048, x (ix2 k r) * y (ix2 k j) := by
  pointwise [k0_pay1]

/-- The rows of the left matrix, the columns of the right one, and those that a point's blocks hold: all columns, half of the places. -/
def left (c : Dev nD) (r : Fin 2816) (k : Fin 4096) : EReal := m ((c.tc : Thread nD τ).loc main_arg0) (ix2 k r)
def right (c : Dev nD) (j : Fin 1024) (k : Fin 4096) : EReal := m ((c.tc : Thread nD τ).loc main_arg2) (ix2 k j)
abbrev row (t : Fin cfg0.N) (r : Fin 256) : Fin 2816 := ⟨256 * (t.val / 2) + r.val, by have := t.isLt; have : cfg0.N = 22 := N_0; omega⟩
abbrev place (t : Fin cfg0.N) (k : Fin 2048) : Fin 4096 := ⟨2048 * (t.val % 2) + k.val, by omega⟩

theorem idx : ∀ t : Fin cfg0.N, win0_0.index t = ![t.val % 2, t.val / 2] ∧ win0_1.index t = ![t.val % 2, 0] ∧ win0_2.index t = ![t.val / 2, 0] :=
  (by decide +kernel : ∀ t : Fin grid0.N, win0_0.index t = ![t.val % 2, t.val / 2] ∧ win0_1.index t = ![t.val % 2, 0] ∧ win0_2.index t = ![t.val / 2, 0])

theorem operand0 (c : Dev nD) (i : S4096x2816.Idx) : V m c main_v0 i = m ((c.tc : Thread nD τ).loc main_arg0) i := by
  unfold V
  after_reads_at

theorem operand1 (c : Dev nD) (i : S4096x1024.Idx) : V m c main_v1 i = m ((c.tc : Thread nD τ).loc main_arg2) i := by
  unfold V
  after_reads_at

theorem left_at (c : Dev nD) (t : Fin cfg0.N) (r : Fin 256) (k : Fin 2048) : iblk m c 0 t (ix2 k r) = left m c (row t r) (place t k) :=
  (congrArg (V m c main_v0) (show (win0_0.blk t).view.emb (ix2 k r) = ix2 (place t k) (row t r) by blk_ext [(idx t).1])).trans (operand0 m c _)

theorem right_at (c : Dev nD) (t : Fin cfg0.N) (j : Fin 1024) (k : Fin 2048) : iblk m c 1 t (ix2 k j) = right m c j (place t k) :=
  (congrArg (V m c main_v1) (show (win0_1.blk t).view.emb (ix2 k j) = ix2 (place t k) j by blk_ext [(idx t).2.1])).trans (operand1 m c _)

theorem place_at (t : Fin cfg0.N) (r : Fin 256) (j : Fin 1024) : (win0_2.blk t).view.emb (ix2 r j) = ix2 (row t r) j := by
  blk_ext [(idx t).2.2]

/-- A pair of points leaves its block of the product. -/
theorem pair_at (c : Dev nD) (t : Fin cfg0.N) (ht : t.val % 2 = 1) (r : Fin 256) (j : Fin 1024) :
    (outsAt0 m c t.val t.isLt).1 (ix2 r j) = total (left m c) (right m c) (ix2 (row t r) j) := by
  obtain ⟨s, hs⟩ : ∃ s : Fin cfg0.N, s.val = t.val - 1 := ⟨⟨t.val - 1, Nat.lt_of_le_of_lt (Nat.sub_le _ _) t.isLt⟩, rfl⟩
  have hf := first m c s (by omega)
  simp only [hs] at hf
  rw [second m c t ht, hf, add_at, block_at, block_at]
  exact two_steps _ _ row (fun _ j => j) place _ _ (left_at m c) (right_at m c) rfl s t (funext fun r => Fin.ext (by dsimp only; omega)) rfl
    (fun k => by dsimp only; omega) (fun k => by dsimp only; omega) r j

/-- The launch leaves the product. -/
theorem final (c : Dev nD) : (dats m 0 c).arrAt 2 cfg0.N = total (left m c) (right m c) := by
  refine (dats m 0 c).arrAt_eq_of_covers 2 _ (by decide +kernel) fun t hf y => ?_
  blk_simp
  rw [after0_2, show y = ix2 (y 0) (y 1) by blk_ext]
  exact (pair_at m c t ((flush0_2 t).mp hf) _ _).trans (congrArg (total (left m c) (right m c)) (place_at t _ _)).symm

/-- The reference's product at an index. -/
theorem product_at (x : FVec Ideal S4096x1024 .f32) (y : FVec Ideal S4096x2816 .f32) (i : S2816x1024.Idx) :
    transpose S2816x1024 [1, 0] (Host.dotGeneral DownDwRefIdeal.dot_S4096x1024_S4096x2816_S1024x2816_0_0_1_1_n_n none x y) DownDwRefIdeal.Gen.transposes_S1024x2816_S2816x1024_1_0 i
      = total (fun r k => y (ix2 k r)) (fun j k => x (ix2 k j)) i := by
  rw [show i = ix2 (i 0) (i 1) by blk_ext]
  unfold total
  pointwise
  exact Finset.sum_congr rfl fun k _ => mul_comm _ _

theorem algebraic : algebraic_DownDwIdeal_DownDwRefIdeal (hDownDwIdeal := Cert.DownDwIdeal.Gen.facts) (hDownDwRefIdeal := Cert.DownDwRefIdeal.Gen.facts) := fun m ρ m' ρ' _ h =>
  ⟨fun c => total (left m c) (right m c), (θ_run _ _ _).mono (fun _ hr c => ⟨(hr c).1.trans (final m c), (hr c).2⟩) (Cert.DownDwIdeal.Value.run_blocks m ρ),
    (θ_run _ _ _).mono (fun _ hr c => ⟨(hr c).1.trans (by rw [(h c).1, (h c).2.2]; exact funext fun i => product_at _ _ i), (hr c).2⟩) (Cert.DownDwRefIdeal.Value.run m' ρ')⟩

theorem reference_frame : quiescent_DownDwRefIdeal (hDownDwRefIdeal := Cert.DownDwRefIdeal.Gen.facts) := fun m ρ _ =>
  (θ_run _ _ _).mono (fun _ h => ⟨fun c => (h c).2, sem_eq_zero_of_no_sems (by decide) _⟩) (Cert.DownDwRefIdeal.Value.run m ρ)

end Cert.DownDwIdeal.Product

end
-- ==== Proof.In.lean ====
/- The product of the packed input projection: what the launch leaves, and the claims. -/
module

public import proofs.«01_k».proof.Proof.Products
public import proofs.«01_k».proof.Defs
public import proofs.«01_k».proof.Proof.Gen.InIdeal
public import proofs.«01_k».proof.Proof.Gen.InIdeal.Value
public import proofs.«01_k».proof.Proof.Gen.InRefIdeal
public import proofs.«01_k».proof.Proof.Gen.InRefIdeal.Run

@[expose] public section

set_option maxRecDepth 16384

noncomputable section

namespace Cert.InIdeal.Product

open Idealize.ShloMosaic Idealize.ShloMosaic.TcCoe Idealize.ShloMosaic.Tactic Idealize.SL.Sem
open Cert.InIdeal Cert.InIdeal.Gen Cert.Products

variable (m : (ℓ : Loc nD τ sig) → Buf (Elt Ideal) ℓ)

/-- A point leaves the product of its two blocks. -/
theorem result (c : Dev nD) (t : Fin cfg0.N) : outsAt0 m c t = k0_pay1 (iblk m c 0 t) (iblk m c 1 t) := by
  unfold outsAt0
  generalize iblk m c 0 t = x, iblk m c 1 t = y
  unfold out0_A_2 kernelRun0_A
  dsimp only
  sl_unfold_words
  rw [stored_whole]
  simp only [View.readAt_eq_ld, Memref.IsWhole.read_unread, load_whole, shapeCast_self]

theorem block_at (x : Vec Ideal S512x1024 .bf16) (y : Vec Ideal S1024x896 .bf16) (r : Fin 512) (j : Fin 896) :
    k0_pay1 x y (ix2 r j) = ∑ k : Fin 1024, x (ix2 r k) * y (ix2 k j) := by
  pointwise [k0_pay1]

/-- The rows of the left matrix, the columns of the right one, and those that a point's blocks hold. -/
def left (c : Dev nD) (r : Fin 4096) (k : Fin 1024) : EReal := m ((c.tc : Thread nD τ).loc main_arg0) (ix2 r k)
def right (c : Dev nD) (j : Fin 2688) (k : Fin 1024) : EReal := m ((c.tc : Thread nD τ).loc main_arg1) (ix2 k j)
abbrev row (t : Fin cfg0.N) (r : Fin 512) : Fin 4096 := ⟨512 * (t.val / 3) + r.val, by have := t.isLt; have : cfg0.N = 24 := N_0; omega⟩
abbrev col (t : Fin cfg0.N) (j : Fin 896) : Fin 2688 := ⟨896 * (t.val % 3) + j.val, by omega⟩

theorem idx : ∀ t : Fin cfg0.N, win0_0.index t = ![t.val / 3, 0] ∧ win0_1.index t = ![0, t.val % 3] ∧ win0_2.index t = ![t.val / 3, t.val % 3] :=
  (by decide +kernel : ∀ t : Fin grid0.N, win0_0.index t = ![t.val / 3, 0] ∧ win0_1.index t = ![0, t.val % 3] ∧ win0_2.index t = ![t.val / 3, t.val % 3])

theorem operand0 (c : Dev nD) (i : S4096x1024.Idx) : V m c main_v0 i = m ((c.tc : Thread nD τ).loc main_arg0) i := by
  unfold V
  after_reads_at

theorem operand1 (c : Dev nD) (i : S1024x2688.Idx) : V m c main_v1 i = m ((c.tc : Thread nD τ).loc main_arg1) i := by
  unfold V
  after_reads_at

theorem left_at (c : Dev nD) (t : Fin cfg0.N) (r : Fin 512) (k : Fin 1024) : iblk m c 0 t (ix2 r k) = left m c (row t r) k :=
  (congrArg (V m c main_v0) (show (win0_0.blk t).view.emb (ix2 r k) = ix2 (row t r) k by blk_ext [(idx t).1])).trans (operand0 m c _)

theorem right_at (c : Dev nD) (t : Fin cfg0.N) (j : Fin 896) (k : Fin 1024) : iblk m c 1 t (ix2 k j) = right m c (col t j) k :=
  (congrArg (V m c main_v1) (show (win0_1.blk t).view.emb (ix2 k j) = ix2 k (col t j) by blk_ext [(idx t).2.1])).trans (operand1 m c _)

theorem place_at (t : Fin cfg0.N) (r : Fin 512) (j : Fin 896) : (win0_2.blk t).view.emb (ix2 r j) = ix2 (row t r) (col t j) := by
  blk_ext [(idx t).2.2]

/-- The launch leaves the product. -/
theorem final (c : Dev nD) : (dats m 0 c).arrAt 2 cfg0.N = total (left m c) (right m c) := by
  refine (dats m 0 c).arrAt_eq_of_covers 2 _ (by decide +kernel) fun t _ y => ?_
  blk_simp
  rw [after0_2, result, show y = ix2 (y 0) (y 1) by blk_ext]
  refine (block_at _ _ (y 0) (y 1)).trans ?_
  exact (one_step _ _ row col _ _ (left_at m c) (right_at m c) t _ _).trans (congrArg (total (left m c) (right m c)) (place_at t _ _)).symm

/-- The reference's product at an index. -/
theorem product_at (x : FVec Ideal S4096x1024 .f32) (y : FVec Ideal S1024x2688 .f32) (i : S4096x2688.Idx) :
    Host.dotGeneral InRefIdeal.dot_S4096x1024_S1024x2688_S4096x2688_1_0_0_1_n_n none x y i = total (fun r k => x (ix2 r k)) (fun j k => y (ix2 k j)) i := by
  rw [show i = ix2 (i 0) (i 1) by blk_ext]
  unfold total
  pointwise

theorem algebraic : algebraic_InIdeal_InRefIdeal (hInIdeal := Cert.InIdeal.Gen.facts) (hInRefIdeal := Cert.InRefIdeal.Gen.facts) := fun m ρ m' ρ' _ h =>
  ⟨fun c => total (left m c) (right m c), (θ_run _ _ _).mono (fun _ hr c => ⟨(hr c).1.trans (final m c), (hr c).2⟩) (Cert.InIdeal.Value.run_blocks m ρ),
    (θ_run _ _ _).mono (fun _ hr c => ⟨(hr c).1.trans (by rw [(h c).1, (h c).2]; exact funext fun i => product_at _ _ i), (hr c).2⟩) (Cert.InRefIdeal.Value.run m' ρ')⟩

theorem reference_frame : quiescent_InRefIdeal (hInRefIdeal := Cert.InRefIdeal.Gen.facts) := fun m ρ _ =>
  (θ_run _ _ _).mono (fun _ h => ⟨fun c => (h c).2, sem_eq_zero_of_no_sems (by decide) _⟩) (Cert.InRefIdeal.Value.run m ρ)

end Cert.InIdeal.Product

end
-- ==== Proof.InDx.lean ====
/- The product that carries the gradient back through the packed input projection: what the launch leaves, and the claims. -/
module

public import proofs.«01_k».proof.Proof.Products
public import proofs.«01_k».proof.Defs
public import proofs.«01_k».proof.Proof.Gen.InDxIdeal
public import proofs.«01_k».proof.Proof.Gen.InDxIdeal.Value
public import proofs.«01_k».proof.Proof.Gen.InDxRefIdeal
public import proofs.«01_k».proof.Proof.Gen.InDxRefIdeal.Run

@[expose] public section

set_option maxRecDepth 16384

noncomputable section

namespace Cert.InDxIdeal.Product

open Idealize.ShloMosaic Idealize.ShloMosaic.TcCoe Idealize.ShloMosaic.Tactic Idealize.SL.Sem
open Cert.InDxIdeal Cert.InDxIdeal.Gen Cert.Products

variable (m : (ℓ : Loc nD τ sig) → Buf (Elt Ideal) ℓ)

/-- A point leaves the product of its two blocks. -/
theorem result (c : Dev nD) (t : Fin cfg0.N) : outsAt0 m c t = k0_pay1 (iblk m c 0 t) (iblk m c 1 t) := by
  unfold outsAt0
  generalize iblk m c 0 t = x, iblk m c 1 t = y
  unfold out0_A_2 kernelRun0_A
  dsimp only
  sl_unfold_words
  rw [stored_whole]
  simp only [View.readAt_eq_ld, Memref.IsWhole.read_unread, load_whole, shapeCast_self]

theorem block_at (x : Vec Ideal S512x2688 .bf16) (y : Vec Ideal S1024x2688 .bf16) (r : Fin 512) (j : Fin 1024) :
    k0_pay1 x y (ix2 r j) = ∑ k : Fin 2688, x (ix2 r k) * y (ix2 j k) := by
  pointwise [k0_pay1]

/-- The rows of the left matrix, the columns of the right one (rows of the weights), and the rows that a point's blocks hold; the weights are one block. -/
def left (c : Dev nD) (r : Fin 4096) (k : Fin 2688) : EReal := m ((c.tc : Thread nD τ).loc main_arg2) (ix2 r k)
def right (c : Dev nD) (j : Fin 1024) (k : Fin 2688) : EReal := m ((c.tc : Thread nD τ).loc main_arg1) (ix2 j k)
abbrev row (t : Fin cfg0.N) (r : Fin 512) : Fin 4096 := ⟨512 * t.val + r.val, by have := t.isLt; have : cfg0.N = 8 := N_0; omega⟩

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem operand0 (c : Dev nD) (i : S4096x2688.Idx) : V m c main_v0 i = m ((c.tc : Thread nD τ).loc main_arg2) i := by
  unfold V
  after_reads_at

theorem operand1 (c : Dev nD) (i : S1024x2688.Idx) : V m c main_v1 i = m ((c.tc : Thread nD τ).loc main_arg1) i := by
  unfold V
  after_reads_at

theorem left_at (c : Dev nD) (t : Fin cfg0.N) (r : Fin 512) (k : Fin 2688) : iblk m c 0 t (ix2 r k) = left m c (row t r) k :=
  (congrArg (V m c main_v0) (show (win0_0.blk t).view.emb (ix2 r k) = ix2 (row t r) k by blk_ext [(idx t).1])).trans (operand0 m c _)

theorem right_at (c : Dev nD) (t : Fin cfg0.N) (j : Fin 1024) (k : Fin 2688) : iblk m c 1 t (ix2 j k) = right m c j k :=
  (congrArg (V m c main_v1) (show (win0_1.blk t).view.emb (ix2 j k) = ix2 j k by blk_ext [(idx t).2.1])).trans (operand1 m c _)

theorem place_at (t : Fin cfg0.N) (r : Fin 512) (j : Fin 1024) : (win0_2.blk t).view.emb (ix2 r j) = ix2 (row t r) j := by
  blk_ext [(idx t).2.2]

/-- The launch leaves the product. -/
theorem final (c : Dev nD) : (dats m 0 c).arrAt 2 cfg0.N = total (left m c) (right m c) := by
  refine (dats m 0 c).arrAt_eq_of_covers 2 _ (by decide +kernel) fun t _ y => ?_
  blk_simp
  rw [after0_2, result, show y = ix2 (y 0) (y 1) by blk_ext]
  refine (block_at _ _ (y 0) (y 1)).trans ?_
  exact (one_step _ _ row (fun _ j => j) _ _ (left_at m c) (right_at m c) t _ _).trans (congrArg (total (left m c) (right m c)) (place_at t _ _)).symm

/-- The reference's product at an index. -/
theorem product_at (x : FVec Ideal S4096x2688 .f32) (y : FVec Ideal S1024x2688 .f32) (i : S4096x1024.Idx) :
    Host.dotGeneral InDxRefIdeal.dot_S4096x2688_S1024x2688_S4096x1024_1_1_0_0_n_n none x y i = total (fun r k => x (ix2 r k)) (fun j k => y (ix2 j k)) i := by
  rw [show i = ix2 (i 0) (i 1) by blk_ext]
  unfold total
  pointwise

theorem algebraic : algebraic_InDxIdeal_InDxRefIdeal (hInDxIdeal := Cert.InDxIdeal.Gen.facts) (hInDxRefIdeal := Cert.InDxRefIdeal.Gen.facts) := fun m ρ m' ρ' _ h =>
  ⟨fun c => total (left m c) (right m c), (θ_run _ _ _).mono (fun _ hr c => ⟨(hr c).1.trans (final m c), (hr c).2⟩) (Cert.InDxIdeal.Value.run_blocks m ρ),
    (θ_run _ _ _).mono (fun _ hr c => ⟨(hr c).1.trans (by rw [(h c).2.1, (h c).2.2]; exact funext fun i => product_at _ _ i), (hr c).2⟩) (Cert.InDxRefIdeal.Value.run m' ρ')⟩

theorem reference_frame : quiescent_InDxRefIdeal (hInDxRefIdeal := Cert.InDxRefIdeal.Gen.facts) := fun m ρ _ =>
  (θ_run _ _ _).mono (fun _ h => ⟨fun c => (h c).2, sem_eq_zero_of_no_sems (by decide) _⟩) (Cert.InDxRefIdeal.Value.run m ρ)

end Cert.InDxIdeal.Product

end
-- ==== Proof.InDw.lean ====
/- The product that is the gradient of the packed input projection: what the launch leaves, and the claims. -/
module

public import proofs.«01_k».proof.Proof.Products
public import proofs.«01_k».proof.Defs
public import proofs.«01_k».proof.Proof.Gen.InDwIdeal
public import proofs.«01_k».proof.Proof.Gen.InDwIdeal.Value
public import proofs.«01_k».proof.Proof.Gen.InDwRefIdeal
public import proofs.«01_k».proof.Proof.Gen.InDwRefIdeal.Run

@[expose] public section

set_option maxRecDepth 16384

noncomputable section

namespace Cert.InDwIdeal.Product

open Idealize.ShloMosaic Idealize.ShloMosaic.TcCoe Idealize.ShloMosaic.Tactic Idealize.SL.Sem
open Cert.InDwIdeal Cert.InDwIdeal.Gen Cert.Products

variable (m : (ℓ : Loc nD τ sig) → Buf (Elt Ideal) ℓ)

/-- The first point of a pair leaves the product of its blocks in the scratch; -/
theorem first (c : Dev nD) (t : Fin cfg0.N) (ht : t.val % 2 = 0) : (outsAt0 m c t.val t.isLt).2 = k0_pay1 (iblk m c 0 t) (iblk m c 1 t) := by
  rw [outsAt0_A m c t ht (by omega)]
  dsimp only
  generalize iblk m c 0 t = x, iblk m c 1 t = y
  unfold sout0_A_0 kernelRun0_A
  dsimp only
  sl_unfold_words
  rw [stored_whole]
  unfold k0_pay2
  simp only [View.readAt_eq_ld, Memref.IsWhole.read_unread, load_whole, shapeCast_self]

/-- the second adds the product of its own. -/
theorem second (c : Dev nD) (t : Fin cfg0.N) (ht : t.val % 2 = 1) : (outsAt0 m c t.val t.isLt).1
    = addf (outsAt0 m c (t.val - 1) (Nat.lt_of_le_of_lt (Nat.sub_le _ _) t.isLt)).2 (k0_pay1 (iblk m c 0 t) (iblk m c 1 t)) := by
  rw [outsAt0_B m c t (by omega) ht]
  dsimp only
  generalize iblk m c 0 t = x, iblk m c 1 t = y, (outsAt0 m c (t.val - 1) _).2 = z
  unfold out0_B_2 kernelRun0_B
  dsimp only
  sl_unfold_words
  rw [stored_whole]
  unfold k0_pay4
  simp only [View.readAt_eq_ld, Memref.IsWhole.read_unread, load_whole, shapeCast_self]
  exact congrArg (addf · _) ((Memref.isWhole_whole cc0_scratch0).read_unread z)

theorem block_at (x : Vec Ideal S2048x512 .bf16) (y : Vec Ideal S2048x896 .bf16) (r : Fin 512) (j : Fin 896) :
    k0_pay1 x y (ix2 r j) = ∑ k : Fin 2048, x (ix2 k r) * y (ix2 k j) := by
  pointwise [k0_pay1]

/-- The rows of the left matrix, the columns of the right one, and those that a point's blocks hold. -/
def left (c : Dev nD) (r : Fin 1024) (k : Fin 4096) : EReal := m ((c.tc : Thread nD τ).loc main_arg0) (ix2 k r)
def right (c : Dev nD) (j : Fin 2688) (k : Fin 4096) : EReal := m ((c.tc : Thread nD τ).loc main_arg2) (ix2 k j)
abbrev row (t : Fin cfg0.N) (r : Fin 512) : Fin 1024 := ⟨512 * (t.val / 6) + r.val, by have := t.isLt; have : cfg0.N = 12 := N_0; omega⟩
abbrev col (t : Fin cfg0.N) (j : Fin 896) : Fin 2688 := ⟨896 * (t.val / 2 % 3) + j.val, by omega⟩
abbrev place (t : Fin cfg0.N) (k : Fin 2048) : Fin 4096 := ⟨2048 * (t.val % 2) + k.val, by omega⟩

theorem idx : ∀ t : Fin cfg0.N, win0_0.index t = ![t.val % 2, t.val / 6] ∧ win0_1.index t = ![t.val % 2, t.val / 2 % 3] ∧ win0_2.index t = ![t.val / 6, t.val / 2 % 3] :=
  (by decide +kernel : ∀ t : Fin grid0.N, win0_0.index t = ![t.val % 2, t.val / 6] ∧ win0_1.index t = ![t.val % 2, t.val / 2 % 3] ∧ win0_2.index t = ![t.val / 6, t.val / 2 % 3])

theorem operand0 (c : Dev nD) (i : S4096x1024.Idx) : V m c main_v0 i = m ((c.tc : Thread nD τ).loc main_arg0) i := by
  unfold V
  after_reads_at

theorem operand1 (c : Dev nD) (i : S4096x2688.Idx) : V m c main_v1 i = m ((c.tc : Thread nD τ).loc main_arg2) i := by
  unfold V
  after_reads_at

theorem left_at (c : Dev nD) (t : Fin cfg0.N) (r : Fin 512) (k : Fin 2048) : iblk m c 0 t (ix2 k r) = left m c (row t r) (place t k) :=
  (congrArg (V m c main_v0) (show (win0_0.blk t).view.emb (ix2 k r) = ix2 (place t k) (row t r) by blk_ext [(idx t).1])).trans (operand0 m c _)

theorem right_at (c : Dev nD) (t : Fin cfg0.N) (j : Fin 896) (k : Fin 2048) : iblk m c 1 t (ix2 k j) = right m c (col t j) (place t k) :=
  (congrArg (V m c main_v1) (show (win0_1.blk t).view.emb (ix2 k j) = ix2 (place t k) (col t j) by blk_ext [(idx t).2.1])).trans (operand1 m c _)

theorem place_at (t : Fin cfg0.N) (r : Fin 512) (j : Fin 896) : (win0_2.blk t).view.emb (ix2 r j) = ix2 (row t r) (col t j) := by
  blk_ext [(idx t).2.2]

/-- A pair of points leaves its block of the product. -/
theorem pair_at (c : Dev nD) (t : Fin cfg0.N) (ht : t.val % 2 = 1) (r : Fin 512) (j : Fin 896) :
    (outsAt0 m c t.val t.isLt).1 (ix2 r j) = total (left m c) (right m c) (ix2 (row t r) (col t j)) := by
  obtain ⟨s, hs⟩ : ∃ s : Fin cfg0.N, s.val = t.val - 1 := ⟨⟨t.val - 1, Nat.lt_of_le_of_lt (Nat.sub_le _ _) t.isLt⟩, rfl⟩
  have hf := first m c s (by omega)
  simp only [hs] at hf
  rw [second m c t ht, hf, add_at, block_at, block_at]
  exact two_steps _ _ row col place _ _ (left_at m c) (right_at m c) rfl s t (funext fun r => Fin.ext (by dsimp only; omega)) (funext fun j => Fin.ext (by dsimp only; omega))
    (fun k => by dsimp only; omega) (fun k => by dsimp only; omega) r j

/-- The launch leaves the product. -/
theorem final (c : Dev nD) : (dats m 0 c).arrAt 2 cfg0.N = total (left m c) (right m c) := by
  refine (dats m 0 c).arrAt_eq_of_covers 2 _ (by decide +kernel) fun t hf y => ?_
  blk_simp
  rw [after0_2, show y = ix2 (y 0) (y 1) by blk_ext]
  exact (pair_at m c t ((flush0_2 t).mp hf) _ _).trans (congrArg (total (left m c) (right m c)) (place_at t _ _)).symm

/-- The reference's product at an index. -/
theorem product_at (x : FVec Ideal S4096x2688 .f32) (y : FVec Ideal S4096x1024 .f32) (i : S1024x2688.Idx) :
    transpose S1024x2688 [1, 0] (Host.dotGeneral InDwRefIdeal.dot_S4096x2688_S4096x1024_S2688x1024_0_0_1_1_n_n none x y) InDwRefIdeal.Gen.transposes_S2688x1024_S1024x2688_1_0 i
      = total (fun r k => y (ix2 k r)) (fun j k => x (ix2 k j)) i := by
  rw [show i = ix2 (i 0) (i 1) by blk_ext]
  unfold total
  pointwise
  exact Finset.sum_congr rfl fun k _ => mul_comm _ _

theorem algebraic : algebraic_InDwIdeal_InDwRefIdeal (hInDwIdeal := Cert.InDwIdeal.Gen.facts) (hInDwRefIdeal := Cert.InDwRefIdeal.Gen.facts) := fun m ρ m' ρ' _ h =>
  ⟨fun c => total (left m c) (right m c), (θ_run _ _ _).mono (fun _ hr c => ⟨(hr c).1.trans (final m c), (hr c).2⟩) (Cert.InDwIdeal.Value.run_blocks m ρ),
    (θ_run _ _ _).mono (fun _ hr c => ⟨(hr c).1.trans (by rw [(h c).1, (h c).2.2]; exact funext fun i => product_at _ _ i), (hr c).2⟩) (Cert.InDwRefIdeal.Value.run m' ρ')⟩

theorem reference_frame : quiescent_InDwRefIdeal (hInDwRefIdeal := Cert.InDwRefIdeal.Gen.facts) := fun m ρ _ =>
  (θ_run _ _ _).mono (fun _ h => ⟨fun c => (h c).2, sem_eq_zero_of_no_sems (by decide) _⟩) (Cert.InDwRefIdeal.Value.run m ρ)

end Cert.InDwIdeal.Product

end
-- ==== Proof.Out.lean ====
/- The product of the output projection: what the launch leaves, and the claims. -/
module

public import proofs.«01_k».proof.Proof.Products
public import proofs.«01_k».proof.Defs
public import proofs.«01_k».proof.Proof.Gen.OutIdeal
public import proofs.«01_k».proof.Proof.Gen.OutIdeal.Value
public import proofs.«01_k».proof.Proof.Gen.OutRefIdeal
public import proofs.«01_k».proof.Proof.Gen.OutRefIdeal.Run

@[expose] public section

set_option maxRecDepth 16384

noncomputable section

namespace Cert.OutIdeal.Product

open Idealize.ShloMosaic Idealize.ShloMosaic.TcCoe Idealize.ShloMosaic.Tactic Idealize.SL.Sem
open Cert.OutIdeal Cert.OutIdeal.Gen Cert.Products

variable (m : (ℓ : Loc nD τ sig) → Buf (Elt Ideal) ℓ)

/-- A point leaves the product of its two blocks. -/
theorem result (c : Dev nD) (t : Fin cfg0.N) : outsAt0 m c t = k0_pay1 (iblk m c 0 t) (iblk m c 1 t) := by
  unfold outsAt0
  generalize iblk m c 0 t = x, iblk m c 1 t = y
  unfold out0_A_2 kernelRun0_A
  dsimp only
  sl_unfold_words
  rw [stored_whole]
  simp only [View.readAt_eq_ld, Memref.IsWhole.read_unread, load_whole, shapeCast_self]

theorem block_at (x : Vec Ideal S512x1024 .bf16) (y : Vec Ideal S1024x1024 .bf16) (r : Fin 512) (j : Fin 1024) :
    k0_pay1 x y (ix2 r j) = ∑ k : Fin 1024, x (ix2 r k) * y (ix2 k j) := by
  pointwise [k0_pay1]

/-- The rows of the left matrix, the columns of the right one, and the rows that a point's blocks hold; the weights are one block. -/
def left (c : Dev nD) (r : Fin 4096) (k : Fin 1024) : EReal := m ((c.tc : Thread nD τ).loc main_arg0) (ix2 r k)
def right (c : Dev nD) (j : Fin 1024) (k : Fin 1024) : EReal := m ((c.tc : Thread nD τ).loc main_arg1) (ix2 k j)
abbrev row (t : Fin cfg0.N) (r : Fin 512) : Fin 4096 := ⟨512 * t.val + r.val, by have := t.isLt; have : cfg0.N = 8 := N_0; omega⟩

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem operand0 (c : Dev nD) (i : S4096x1024.Idx) : V m c main_v0 i = m ((c.tc : Thread nD τ).loc main_arg0) i := by
  unfold V
  after_reads_at

theorem operand1 (c : Dev nD) (i : S1024x1024.Idx) : V m c main_v1 i = m ((c.tc : Thread nD τ).loc main_arg1) i := by
  unfold V
  after_reads_at

theorem left_at (c : Dev nD) (t : Fin cfg0.N) (r : Fin 512) (k : Fin 1024) : iblk m c 0 t (ix2 r k) = left m c (row t r) k :=
  (congrArg (V m c main_v0) (show (win0_0.blk t).view.emb (ix2 r k) = ix2 (row t r) k by blk_ext [(idx t).1])).trans (operand0 m c _)

theorem right_at (c : Dev nD) (t : Fin cfg0.N) (j : Fin 1024) (k : Fin 1024) : iblk m c 1 t (ix2 k j) = right m c j k :=
  (congrArg (V m c main_v1) (show (win0_1.blk t).view.emb (ix2 k j) = ix2 k j by blk_ext [(idx t).2.1])).trans (operand1 m c _)

theorem place_at (t : Fin cfg0.N) (r : Fin 512) (j : Fin 1024) : (win0_2.blk t).view.emb (ix2 r j) = ix2 (row t r) j := by
  blk_ext [(idx t).2.2]

/-- The launch leaves the product. -/
theorem final (c : Dev nD) : (dats m 0 c).arrAt 2 cfg0.N = total (left m c) (right m c) := by
  refine (dats m 0 c).arrAt_eq_of_covers 2 _ (by decide +kernel) fun t _ y => ?_
  blk_simp
  rw [after0_2, result, show y = ix2 (y 0) (y 1) by blk_ext]
  refine (block_at _ _ (y 0) (y 1)).trans ?_
  exact (one_step _ _ row (fun _ j => j) _ _ (left_at m c) (right_at m c) t _ _).trans (congrArg (total (left m c) (right m c)) (place_at t _ _)).symm

/-- The reference's product at an index. -/
theorem product_at (x : FVec Ideal S4096x1024 .f32) (y : FVec Ideal S1024x1024 .f32) (i : S4096x1024.Idx) :
    Host.dotGeneral OutRefIdeal.dot_S4096x1024_S1024x1024_S4096x1024_1_0_0_1_n_n none x y i = total (fun r k => x (ix2 r k)) (fun j k => y (ix2 k j)) i := by
  rw [show i = ix2 (i 0) (i 1) by blk_ext]
  unfold total
  pointwise

theorem algebraic : algebraic_OutIdeal_OutRefIdeal (hOutIdeal := Cert.OutIdeal.Gen.facts) (hOutRefIdeal := Cert.OutRefIdeal.Gen.facts) := fun m ρ m' ρ' _ h =>
  ⟨fun c => total (left m c) (right m c), (θ_run _ _ _).mono (fun _ hr c => ⟨(hr c).1.trans (final m c), (hr c).2⟩) (Cert.OutIdeal.Value.run_blocks m ρ),
    (θ_run _ _ _).mono (fun _ hr c => ⟨(hr c).1.trans (by rw [(h c).1, (h c).2]; exact funext fun i => product_at _ _ i), (hr c).2⟩) (Cert.OutRefIdeal.Value.run m' ρ')⟩

theorem reference_frame : quiescent_OutRefIdeal (hOutRefIdeal := Cert.OutRefIdeal.Gen.facts) := fun m ρ _ =>
  (θ_run _ _ _).mono (fun _ h => ⟨fun c => (h c).2, sem_eq_zero_of_no_sems (by decide) _⟩) (Cert.OutRefIdeal.Value.run m ρ)

end Cert.OutIdeal.Product

end
-- ==== Proof.OutDx.lean ====
/- The product that carries the gradient back through the output projection: what the launch leaves, and the claims. -/
module

public import proofs.«01_k».proof.Proof.Products
public import proofs.«01_k».proof.Defs
public import proofs.«01_k».proof.Proof.Gen.OutDxIdeal
public import proofs.«01_k».proof.Proof.Gen.OutDxIdeal.Value
public import proofs.«01_k».proof.Proof.Gen.OutDxRefIdeal
public import proofs.«01_k».proof.Proof.Gen.OutDxRefIdeal.Run

@[expose] public section

set_option maxRecDepth 16384

noncomputable section

namespace Cert.OutDxIdeal.Product

open Idealize.ShloMosaic Idealize.ShloMosaic.TcCoe Idealize.ShloMosaic.Tactic Idealize.SL.Sem
open Cert.OutDxIdeal Cert.OutDxIdeal.Gen Cert.Products

variable (m : (ℓ : Loc nD τ sig) → Buf (Elt Ideal) ℓ)

/-- A point leaves the product of its two blocks. -/
theorem result (c : Dev nD) (t : Fin cfg0.N) : outsAt0 m c t = k0_pay1 (iblk m c 0 t) (iblk m c 1 t) := by
  unfold outsAt0
  generalize iblk m c 0 t = x, iblk m c 1 t = y
  unfold out0_A_2 kernelRun0_A
  dsimp only
  sl_unfold_words
  rw [stored_whole]
  simp only [View.readAt_eq_ld, Memref.IsWhole.read_unread, load_whole, shapeCast_self]

theorem block_at (x : Vec Ideal S512x1024 .bf16) (y : Vec Ideal S1024x1024 .bf16) (r : Fin 512) (j : Fin 1024) :
    k0_pay1 x y (ix2 r j) = ∑ k : Fin 1024, x (ix2 r k) * y (ix2 j k) := by
  pointwise [k0_pay1]

/-- The rows of the left matrix, the columns of the right one (rows of the weights), and the rows that a point's blocks hold; the weights are one block. -/
def left (c : Dev nD) (r : Fin 4096) (k : Fin 1024) : EReal := m ((c.tc : Thread nD τ).loc main_arg2) (ix2 r k)
def right (c : Dev nD) (j : Fin 1024) (k : Fin 1024) : EReal := m ((c.tc : Thread nD τ).loc main_arg1) (ix2 j k)
abbrev row (t : Fin cfg0.N) (r : Fin 512) : Fin 4096 := ⟨512 * t.val + r.val, by have := t.isLt; have : cfg0.N = 8 := N_0; omega⟩

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem operand0 (c : Dev nD) (i : S4096x1024.Idx) : V m c main_v0 i = m ((c.tc : Thread nD τ).loc main_arg2) i := by
  unfold V
  after_reads_at

theorem operand1 (c : Dev nD) (i : S1024x1024.Idx) : V m c main_v1 i = m ((c.tc : Thread nD τ).loc main_arg1) i := by
  unfold V
  after_reads_at

theorem left_at (c : Dev nD) (t : Fin cfg0.N) (r : Fin 512) (k : Fin 1024) : iblk m c 0 t (ix2 r k) = left m c (row t r) k :=
  (congrArg (V m c main_v0) (show (win0_0.blk t).view.emb (ix2 r k) = ix2 (row t r) k by blk_ext [(idx t).1])).trans (operand0 m c _)

theorem right_at (c : Dev nD) (t : Fin cfg0.N) (j : Fin 1024) (k : Fin 1024) : iblk m c 1 t (ix2 j k) = right m c j k :=
  (congrArg (V m c main_v1) (show (win0_1.blk t).view.emb (ix2 j k) = ix2 j k by blk_ext [(idx t).2.1])).trans (operand1 m c _)

theorem place_at (t : Fin cfg0.N) (r : Fin 512) (j : Fin 1024) : (win0_2.blk t).view.emb (ix2 r j) = ix2 (row t r) j := by
  blk_ext [(idx t).2.2]

/-- The launch leaves the product. -/
theorem final (c : Dev nD) : (dats m 0 c).arrAt 2 cfg0.N = total (left m c) (right m c) := by
  refine (dats m 0 c).arrAt_eq_of_covers 2 _ (by decide +kernel) fun t _ y => ?_
  blk_simp
  rw [after0_2, result, show y = ix2 (y 0) (y 1) by blk_ext]
  refine (block_at _ _ (y 0) (y 1)).trans ?_
  exact (one_step _ _ row (fun _ j => j) _ _ (left_at m c) (right_at m c) t _ _).trans (congrArg (total (left m c) (right m c)) (place_at t _ _)).symm

/-- The reference's product at an index. -/
theorem product_at (x : FVec Ideal S4096x1024 .f32) (y : FVec Ideal S1024x1024 .f32) (i : S4096x1024.Idx) :
    Host.dotGeneral OutDxRefIdeal.dot_S4096x1024_S1024x1024_S4096x1024_1_1_0_0_n_n none x y i = total (fun r k => x (ix2 r k)) (fun j k => y (ix2 j k)) i := by
  rw [show i = ix2 (i 0) (i 1) by blk_ext]
  unfold total
  pointwise

theorem algebraic : algebraic_OutDxIdeal_OutDxRefIdeal (hOutDxIdeal := Cert.OutDxIdeal.Gen.facts) (hOutDxRefIdeal := Cert.OutDxRefIdeal.Gen.facts) := fun m ρ m' ρ' _ h =>
  ⟨fun c => total (left m c) (right m c), (θ_run _ _ _).mono (fun _ hr c => ⟨(hr c).1.trans (final m c), (hr c).2⟩) (Cert.OutDxIdeal.Value.run_blocks m ρ),
    (θ_run _ _ _).mono (fun _ hr c => ⟨(hr c).1.trans (by rw [(h c).2.1, (h c).2.2]; exact funext fun i => product_at _ _ i), (hr c).2⟩) (Cert.OutDxRefIdeal.Value.run m' ρ')⟩

theorem reference_frame : quiescent_OutDxRefIdeal (hOutDxRefIdeal := Cert.OutDxRefIdeal.Gen.facts) := fun m ρ _ =>
  (θ_run _ _ _).mono (fun _ h => ⟨fun c => (h c).2, sem_eq_zero_of_no_sems (by decide) _⟩) (Cert.OutDxRefIdeal.Value.run m ρ)

end Cert.OutDxIdeal.Product

end
-- ==== Proof.OutDw.lean ====
/- The product that is the gradient of the output projection: what the launch leaves, and the claims. -/
module

public import proofs.«01_k».proof.Proof.Products
public import proofs.«01_k».proof.Defs
public import proofs.«01_k».proof.Proof.Gen.OutDwIdeal
public import proofs.«01_k».proof.Proof.Gen.OutDwIdeal.Value
public import proofs.«01_k».proof.Proof.Gen.OutDwRefIdeal
public import proofs.«01_k».proof.Proof.Gen.OutDwRefIdeal.Run

@[expose] public section

set_option maxRecDepth 16384

noncomputable section

namespace Cert.OutDwIdeal.Product

open Idealize.ShloMosaic Idealize.ShloMosaic.TcCoe Idealize.ShloMosaic.Tactic Idealize.SL.Sem
open Cert.OutDwIdeal Cert.OutDwIdeal.Gen Cert.Products

variable (m : (ℓ : Loc nD τ sig) → Buf (Elt Ideal) ℓ)

/-- The first point of a pair leaves the product of its blocks in the scratch; -/
theorem first (c : Dev nD) (t : Fin cfg0.N) (ht : t.val % 2 = 0) : (outsAt0 m c t.val t.isLt).2 = k0_pay1 (iblk m c 0 t) (iblk m c 1 t) := by
  rw [outsAt0_A m c t ht (by omega)]
  dsimp only
  generalize iblk m c 0 t = x, iblk m c 1 t = y
  unfold sout0_A_0 kernelRun0_A
  dsimp only
  sl_unfold_words
  rw [stored_whole]
  unfold k0_pay2
  simp only [View.readAt_eq_ld, Memref.IsWhole.read_unread, load_whole, shapeCast_self]

/-- the second adds the product of its own. -/
theorem second (c : Dev nD) (t : Fin cfg0.N) (ht : t.val % 2 = 1) : (outsAt0 m c t.val t.isLt).1
    = addf (outsAt0 m c (t.val - 1) (Nat.lt_of_le_of_lt (Nat.sub_le _ _) t.isLt)).2 (k0_pay1 (iblk m c 0 t) (iblk m c 1 t)) := by
  rw [outsAt0_B m c t (by omega) ht]
  dsimp only
  generalize iblk m c 0 t = x, iblk m c 1 t = y, (outsAt0 m c (t.val - 1) _).2 = z
  unfold out0_B_2 kernelRun0_B
  dsimp only
  sl_unfold_words
  rw [stored_whole]
  unfold k0_pay4
  simp only [View.readAt_eq_ld, Memref.IsWhole.read_unread, load_whole, shapeCast_self]
  exact congrArg (addf · _) ((Memref.isWhole_whole cc0_scratch0).read_unread z)

theorem block_at (x : Vec Ideal S2048x512 .bf16) (y : Vec Ideal S2048x1024 .bf16) (r : Fin 512) (j : Fin 1024) :
    k0_pay1 x y (ix2 r j) = ∑ k : Fin 2048, x (ix2 k r) * y (ix2 k j) := by
  pointwise [k0_pay1]

/-- The rows of the left matrix, the columns of the right one, and those that a point's blocks hold: all columns, half of the places. -/
def left (c : Dev nD) (r : Fin 1024) (k : Fin 4096) : EReal := m ((c.tc : Thread nD τ).loc main_arg0) (ix2 k r)
def right (c : Dev nD) (j : Fin 1024) (k : Fin 4096) : EReal := m ((c.tc : Thread nD τ).loc main_arg2) (ix2 k j)
abbrev row (t : Fin cfg0.N) (r : Fin 512) : Fin 1024 := ⟨512 * (t.val / 2) + r.val, by have := t.isLt; have : cfg0.N = 4 := N_0; omega⟩
abbrev place (t : Fin cfg0.N) (k : Fin 2048) : Fin 4096 := ⟨2048 * (t.val % 2) + k.val, by omega⟩

theorem idx : ∀ t : Fin cfg0.N, win0_0.index t = ![t.val % 2, t.val / 2] ∧ win0_1.index t = ![t.val % 2, 0] ∧ win0_2.index t = ![t.val / 2, 0] :=
  (by decide +kernel : ∀ t : Fin grid0.N, win0_0.index t = ![t.val % 2, t.val / 2] ∧ win0_1.index t = ![t.val % 2, 0] ∧ win0_2.index t = ![t.val / 2, 0])

theorem operand0 (c : Dev nD) (i : S4096x1024.Idx) : V m c main_v0 i = m ((c.tc : Thread nD τ).loc main_arg0) i := by
  unfold V
  after_reads_at

theorem operand1 (c : Dev nD) (i : S4096x1024.Idx) : V m c main_v1 i = m ((c.tc : Thread nD τ).loc main_arg2) i := by
  unfold V
  after_reads_at

theorem left_at (c : Dev nD) (t : Fin cfg0.N) (r : Fin 512) (k : Fin 2048) : iblk m c 0 t (ix2 k r) = left m c (row t r) (place t k) :=
  (congrArg (V m c main_v0) (show (win0_0.blk t).view.emb (ix2 k r) = ix2 (place t k) (row t r) by blk_ext [(idx t).1])).trans (operand0 m c _)

theorem right_at (c : Dev nD) (t : Fin cfg0.N) (j : Fin 1024) (k : Fin 2048) : iblk m c 1 t (ix2 k j) = right m c j (place t k) :=
  (congrArg (V m c main_v1) (show (win0_1.blk t).view.emb (ix2 k j) = ix2 (place t k) j by blk_ext [(idx t).2.1])).trans (operand1 m c _)

theorem place_at (t : Fin cfg0.N) (r : Fin 512) (j : Fin 1024) : (win0_2.blk t).view.emb (ix2 r j) = ix2 (row t r) j := by
  blk_ext [(idx t).2.2]

/-- A pair of points leaves its block of the product. -/
theorem pair_at (c : Dev nD) (t : Fin cfg0.N) (ht : t.val % 2 = 1) (r : Fin 512) (j : Fin 1024) :
    (outsAt0 m c t.val t.isLt).1 (ix2 r j) = total (left m c) (right m c) (ix2 (row t r) j) := by
  obtain ⟨s, hs⟩ : ∃ s : Fin cfg0.N, s.val = t.val - 1 := ⟨⟨t.val - 1, Nat.lt_of_le_of_lt (Nat.sub_le _ _) t.isLt⟩, rfl⟩
  have hf := first m c s (by omega)
  simp only [hs] at hf
  rw [second m c t ht, hf, add_at, block_at, block_at]
  exact two_steps _ _ row (fun _ j => j) place _ _ (left_at m c) (right_at m c) rfl s t (funext fun r => Fin.ext (by dsimp only; omega)) rfl
    (fun k => by dsimp only; omega) (fun k => by dsimp only; omega) r j

/-- The launch leaves the product. -/
theorem final (c : Dev nD) : (dats m 0 c).arrAt 2 cfg0.N = total (left m c) (right m c) := by
  refine (dats m 0 c).arrAt_eq_of_covers 2 _ (by decide +kernel) fun t hf y => ?_
  blk_simp
  rw [after0_2, show y = ix2 (y 0) (y 1) by blk_ext]
  exact (pair_at m c t ((flush0_2 t).mp hf) _ _).trans (congrArg (total (left m c) (right m c)) (place_at t _ _)).symm

/-- The reference's product at an index. -/
theorem product_at (x : FVec Ideal S4096x1024 .f32) (y : FVec Ideal S4096x1024 .f32) (i : S1024x1024.Idx) :
    transpose S1024x1024 [1, 0] (Host.dotGeneral OutDwRefIdeal.dot_S4096x1024_S4096x1024_S1024x1024_0_0_1_1_n_n none x y) OutDwRefIdeal.Gen.transposes_S1024x1024_S1024x1024_1_0 i
      = total (fun r k => y (ix2 k r)) (fun j k => x (ix2 k j)) i := by
  rw [show i = ix2 (i 0) (i 1) by blk_ext]
  unfold total
  pointwise
  exact Finset.sum_congr rfl fun k _ => mul_comm _ _

theorem algebraic : algebraic_OutDwIdeal_OutDwRefIdeal (hOutDwIdeal := Cert.OutDwIdeal.Gen.facts) (hOutDwRefIdeal := Cert.OutDwRefIdeal.Gen.facts) := fun m ρ m' ρ' _ h =>
  ⟨fun c => total (left m c) (right m c), (θ_run _ _ _).mono (fun _ hr c => ⟨(hr c).1.trans (final m c), (hr c).2⟩) (Cert.OutDwIdeal.Value.run_blocks m ρ),
    (θ_run _ _ _).mono (fun _ hr c => ⟨(hr c).1.trans (by rw [(h c).1, (h c).2.2]; exact funext fun i => product_at _ _ i), (hr c).2⟩) (Cert.OutDwRefIdeal.Value.run m' ρ')⟩

theorem reference_frame : quiescent_OutDwRefIdeal (hOutDwRefIdeal := Cert.OutDwRefIdeal.Gen.facts) := fun m ρ _ =>
  (θ_run _ _ _).mono (fun _ h => ⟨fun c => (h c).2, sem_eq_zero_of_no_sems (by decide) _⟩) (Cert.OutDwRefIdeal.Value.run m ρ)

end Cert.OutDwIdeal.Product

end
-- ==== Proof.BlockValue.lean ====
/- What one grid point computes over the extended reals: the sums that it adds to the three gradients. -/
module

public import proofs.«01_k».proof.Proof.Block
public import Idealize.ShloMosaic.Lib.Pointwise
public import Idealize.ShloMosaic.Lib.WordCmp

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

/-- Row `r` of block `n` of 1024 rows. -/
abbrev row (n : Fin 4) (r : Fin 1024) : Fin 4096 := ⟨1024 * n.val + r.val, by omega⟩

/-- The scale of the scores, as an extended real. -/
def cE : EReal := Ideal.ofBits .f32 0x3DD105EC#32

/-! ## Blocks of rows, read and replaced -/

theorem rows128_at {e : EltTy} (x : Vec Ideal S1x4096x128 e) (n : Fin 4) (r : Fin 1024) (d : Fin 128) :
    rows128 x n (ix3 0 r d) = x (ix3 0 (row n r) d) :=
  congrArg x (funext fun a => Fin.ext (by
    match a with
    | ⟨0, _⟩ => rfl
    | ⟨1, _⟩ => show 1024 * n.val + 1 * r.val = 1024 * n.val + r.val; omega
    | ⟨2, _⟩ => show 0 + 1 * d.val = d.val; omega))

theorem rows64_at {e : EltTy} (x : Vec Ideal S1x4096x64 e) (n : Fin 4) (r : Fin 1024) (d : Fin 64) :
    rows64 x n (ix3 0 r d) = x (ix3 0 (row n r) d) :=
  congrArg x (funext fun a => Fin.ext (by
    match a with
    | ⟨0, _⟩ => rfl
    | ⟨1, _⟩ => show 1024 * n.val + 1 * r.val = 1024 * n.val + r.val; omega
    | ⟨2, _⟩ => show 0 + 1 * d.val = d.val; omega))

theorem rows1_at {e : EltTy} (x : Vec Ideal S1x4096x1 e) (n : Fin 4) (r : Fin 1024) :
    rows1 x n (ix3 0 r 0) = x (ix3 0 (row n r) 0) :=
  congrArg x (funext fun a => Fin.ext (by
    match a with
    | ⟨0, _⟩ => rfl
    | ⟨1, _⟩ => show 1024 * n.val + 1 * r.val = 1024 * n.val + r.val; omega
    | ⟨2, _⟩ => rfl))

theorem putRows_in (x : Vec Ideal S1x4096x128 .f32) (n : Fin 4) (w : Vec Ideal S1x1024x128 .f32) (r : Fin 1024) (d : Fin 128) :
    putRows x n w (ix3 0 (row n r) d) = w (ix3 0 r d) := by
  unfold putRows VecWindow.put
  rw [dif_pos (by
    intro a
    match a with
    | ⟨0, _⟩ => exact ⟨Nat.le_refl _, Nat.zero_lt_one⟩
    | ⟨1, _⟩ => exact ⟨Nat.le_add_right _ _, Nat.add_lt_add_left r.isLt _⟩
    | ⟨2, _⟩ => exact ⟨Nat.zero_le _, by show d.val < 0 + 128; omega⟩)]
  refine congrArg w (funext fun a => Fin.ext ?_)
  match a with
  | ⟨0, _⟩ => rfl
  | ⟨1, _⟩ => show 1024 * n.val + r.val - 1024 * n.val = r.val; omega
  | ⟨2, _⟩ => show d.val - 0 = d.val; omega

theorem putRows_out (x : Vec Ideal S1x4096x128 .f32) (n : Fin 4) (w : Vec Ideal S1x1024x128 .f32) (q : Fin 4096) (d : Fin 128)
    (h : q.val / 1024 ≠ n.val) : putRows x n w (ix3 0 q d) = x (ix3 0 q d) := by
  unfold putRows VecWindow.put
  rw [dif_neg]
  intro hh
  obtain ⟨h1, h2⟩ := hh ⟨1, by decide⟩
  have h1' : 1024 * n.val ≤ q.val := h1
  have h2' : q.val < 1024 * n.val + 1024 := h2
  omega

/-! ## One step -/

section
variable (x0 : Vec Ideal S1x4096x128 .bf16) (x1 : Vec Ideal S1x1024x128 .bf16) (x2 : Vec Ideal S1x1024x64 .bf16)
  (x3 : Vec Ideal S1x4096x64 .f32) (x4 : Vec Ideal S1x4096x1 .f32) (x5 : Vec Ideal S1x4096x64 .f32)

/-- The probability of query `q` and key `k` of block `j`, recomputed from the saved log-sum; zero past the diagonal. -/
def pm (j : Fin 4) (q : Fin 4096) (k : Fin 1024) : EReal :=
  if 1024 * j.val + k.val ≤ q.val then
    Ideal.exp ((∑ d : Fin 128, x0 (ix3 0 q d) * x1 (ix3 0 k d)) * cE - x4 (ix3 0 q 0)) else 0

/-- The gradient of the score of query `q` and key `k` of block `j`. -/
def dsm (j : Fin 4) (q : Fin 4096) (k : Fin 1024) : EReal :=
  pm x0 x1 x4 j q k * ((∑ d : Fin 64, x5 (ix3 0 q d) * x2 (ix3 0 k d)) - ∑ d : Fin 64, x5 (ix3 0 q d) * x3 (ix3 0 q d)) * cE

theorem pm_past (j n : Fin 4) (h : n < j) (r k : Fin 1024) : pm x0 x1 x4 j (row n r) k = 0 := by
  unfold pm
  have : n.val < j.val := h
  rw [if_neg (by show ¬ _ ≤ 1024 * n.val + r.val; omega)]

theorem dsm_past (j n : Fin 4) (h : n < j) (r k : Fin 1024) : dsm x0 x1 x2 x3 x4 x5 j (row n r) k = 0 := by
  unfold dsm
  rw [pm_past x0 x1 x4 j n h, zero_mul, zero_mul]

/-- What block `n` of queries adds to each gradient. -/
def tq (j : Fin 4) (q : Fin 4096) (d : Fin 128) (n : Fin 4) : EReal :=
  if q.val / 1024 = n.val then ∑ k : Fin 1024, dsm x0 x1 x2 x3 x4 x5 j q k * x1 (ix3 0 k d) else 0
def tk (j : Fin 4) (k : Fin 1024) (d : Fin 128) (n : Fin 4) : EReal :=
  ∑ r : Fin 1024, dsm x0 x1 x2 x3 x4 x5 j (row n r) k * x0 (ix3 0 (row n r) d)
def tv (j : Fin 4) (k : Fin 1024) (d : Fin 64) (n : Fin 4) : EReal :=
  ∑ r : Fin 1024, pm x0 x1 x4 j (row n r) k * x5 (ix3 0 (row n r) d)

theorem row_split (q : Fin 4096) (n : Fin 4) (h : q.val / 1024 = n.val) : q = row n ⟨q.val % 1024, Nat.mod_lt _ (by decide)⟩ :=
  Fin.ext (by show q.val = 1024 * n.val + q.val % 1024; omega)

/-! ### The unmasked step -/

theorem off_p (j n : Fin 4) (h : j < n) (r k : Fin 1024) :
    k0_pay11 (k0_pay22 x1) (rows128 x0 n) (rows1 x4 n) (ix2 r k) = pm x0 x1 x4 j (row n r) k := by
  unfold pm
  have : j.val < n.val := h
  rw [if_pos (by show _ ≤ 1024 * n.val + r.val; omega)]
  pointwise [k0_pay11, k0_pay9, k0_pay22]
  simp only [rows128_at, rows1_at]
  rfl

theorem off_ds (j n : Fin 4) (h : j < n) (r k : Fin 1024) :
    k0_pay13 (k0_pay22 x1) (k0_pay23 x2) (rows128 x0 n) (rows64 x5 n) (rows1 x4 n) (rows64 x3 n) (ix2 r k) * scaleC
      = dsm x0 x1 x2 x3 x4 x5 j (row n r) k := by
  unfold dsm
  rw [← off_p x0 x1 x4 j n h r k]
  pointwise [k0_pay13, k0_pay10, k0_pay23]
  simp only [rows64_at]
  rfl

theorem off_q (j n : Fin 4) (h : j < n) (s : Grads Ideal) (q : Fin 4096) (d : Fin 128) :
    (offStep x0 x3 x4 x5 (k0_pay22 x1) (k0_pay23 x2) n s).1 (ix3 0 q d) = s.1 (ix3 0 q d) + tq x0 x1 x2 x3 x4 x5 j q d n := by
  unfold tq
  by_cases hq : q.val / 1024 = n.val
  · rw [if_pos hq, row_split q n hq]
    generalize (⟨q.val % 1024, _⟩ : Fin 1024) = r
    unfold offStep
    dsimp only
    rw [putRows_in]
    pointwise [k0_pay5, k0_pay3]
    rw [rows128_at]
    refine congrArg _ (Finset.sum_congr rfl fun k _ => ?_)
    rw [off_ds x0 x1 x2 x3 x4 x5 j n h]
    pointwise [k0_pay22]
  · rw [if_neg hq, add_zero]
    exact putRows_out _ _ _ q d hq

theorem off_k (j n : Fin 4) (h : j < n) (s : Grads Ideal) (k : Fin 1024) (d : Fin 128) :
    (offStep x0 x3 x4 x5 (k0_pay22 x1) (k0_pay23 x2) n s).2.1 (ix3 0 k d) = s.2.1 (ix3 0 k d) + tk x0 x1 x2 x3 x4 x5 j k d n := by
  unfold tk offStep
  dsimp only
  pointwise [k0_pay4, k0_pay3]
  refine congrArg _ (Finset.sum_congr rfl fun r _ => ?_)
  rw [off_ds x0 x1 x2 x3 x4 x5 j n h]
  pointwise [k0_pay9]
  rw [rows128_at]

theorem off_v (j n : Fin 4) (h : j < n) (s : Grads Ideal) (k : Fin 1024) (d : Fin 64) :
    (offStep x0 x3 x4 x5 (k0_pay22 x1) (k0_pay23 x2) n s).2.2 (ix3 0 k d) = s.2.2 (ix3 0 k d) + tv x0 x1 x4 x5 j k d n := by
  unfold tv offStep
  dsimp only
  pointwise [k0_pay12]
  refine congrArg _ (Finset.sum_congr rfl fun r _ => ?_)
  rw [off_p x0 x1 x4 j n h]
  pointwise [k0_pay10]
  rw [rows64_at]

/-! ### The masked step -/

theorem pos_eq (j : Fin 4) (a : ℕ) :
    IntOp.addi (Scalar.muli (BitVec.ofNat 32 j.val) 1024#32) (BitVec.ofNat 32 a) = BitVec.ofNat 32 (j.val * 1024 + a) := by
  show BitVec.ofNat 32 j.val * BitVec.ofNat 32 1024 + BitVec.ofNat 32 a = _
  rw [← BitVec.ofNat_mul, ← BitVec.ofNat_add]

theorem toInt_small (a : ℕ) (h : a < 4096) : (BitVec.ofNat 32 a).toInt = a := by
  rw [BitVec.toInt_eq_toNat_cond, BitVec.toNat_ofNat, Nat.mod_eq_of_lt (by omega), if_pos (by omega)]

theorem mask_iff (j : Fin 4) (r k : Fin 1024) :
    IntOp.cmpi .sle (IntOp.addi (Scalar.muli (BitVec.ofNat 32 j.val) 1024#32) (BitVec.ofNat 32 k.val))
        (IntOp.addi (Scalar.muli (BitVec.ofNat 32 j.val) 1024#32) (BitVec.ofNat 32 r.val)) = 1#1
      ↔ 1024 * j.val + k.val ≤ 1024 * j.val + r.val := by
  rw [pos_eq, pos_eq, WordCmp.cmpi_sle_eq, toInt_small _ (by omega), toInt_small _ (by omega)]
  rw [show ∀ p : Bool, (BitVec.ofBool p = 1#1) = (p = true) by decide, decide_eq_true_iff]
  omega

theorem diag_p (j : Fin 4) (r k : Fin 1024) :
    k0_pay27 (BitVec.ofNat 32 j.val) (k0_pay26 x1 (rows128 x0 j) (rows1 x4 j)) (Scalar.muli (BitVec.ofNat 32 j.val) 1024#32) (ix2 r k)
      = pm x0 x1 x4 j (row j r) k := by
  unfold pm
  pointwise [k0_pay27]
  have hm := mask_iff j r k
  unfold Scalar.select
  by_cases h : 1024 * j.val + k.val ≤ 1024 * j.val + r.val
  · rw [if_pos h, if_pos (show _ = (1 : BitVec 1) from hm.mpr h)]
    pointwise [k0_pay26, k0_pay24, k0_pay22]
    simp only [rows128_at, rows1_at]
    rfl
  · rw [if_neg h, if_neg (show ¬ _ = (1 : BitVec 1) from fun e => h (hm.mp e))]

theorem diag_ds (j : Fin 4) (r k : Fin 1024) :
    k0_pay29 (BitVec.ofNat 32 j.val) (k0_pay23 x2) (k0_pay25 (rows64 x5 j)) (k0_pay26 x1 (rows128 x0 j) (rows1 x4 j))
        (Scalar.muli (BitVec.ofNat 32 j.val) 1024#32) (rows64 x3 j) (ix2 r k)
      = dsm x0 x1 x2 x3 x4 x5 j (row j r) k := by
  unfold dsm
  rw [← diag_p x0 x1 x4 j r k]
  pointwise [k0_pay29, k0_pay25, k0_pay23]
  simp only [rows64_at]
  rfl

theorem diag_q (j : Fin 4) (s : Grads Ideal) (q : Fin 4096) (d : Fin 128) :
    (diagStep x0 x1 x2 x3 x4 x5 j s).1 (ix3 0 q d) = s.1 (ix3 0 q d) + tq x0 x1 x2 x3 x4 x5 j q d j := by
  unfold tq
  by_cases hq : q.val / 1024 = j.val
  · rw [if_pos hq, row_split q j hq]
    generalize (⟨q.val % 1024, _⟩ : Fin 1024) = r
    unfold diagStep
    dsimp only
    rw [putRows_in]
    pointwise [k0_pay2]
    rw [rows128_at]
    refine congrArg _ (Finset.sum_congr rfl fun k _ => ?_)
    rw [diag_ds]
    pointwise [k0_pay22]
  · rw [if_neg hq, add_zero]
    exact putRows_out _ _ _ q d hq

theorem diag_k (j : Fin 4) (s : Grads Ideal) (k : Fin 1024) (d : Fin 128) :
    (diagStep x0 x1 x2 x3 x4 x5 j s).2.1 (ix3 0 k d) = s.2.1 (ix3 0 k d) + tk x0 x1 x2 x3 x4 x5 j k d j := by
  unfold tk diagStep
  dsimp only
  pointwise [k0_pay1, k0_pay30]
  refine congrArg _ (Finset.sum_congr rfl fun r _ => ?_)
  rw [diag_ds]
  pointwise [k0_pay24]
  rw [rows128_at]

theorem diag_v (j : Fin 4) (s : Grads Ideal) (k : Fin 1024) (d : Fin 64) :
    (diagStep x0 x1 x2 x3 x4 x5 j s).2.2 (ix3 0 k d) = s.2.2 (ix3 0 k d) + tv x0 x1 x4 x5 j k d j := by
  unfold tv diagStep
  dsimp only
  pointwise [k0_pay28]
  refine congrArg _ (Finset.sum_congr rfl fun r _ => ?_)
  rw [diag_p]
  pointwise [k0_pay25]
  rw [rows64_at]

/-! ## The steps of a grid point together -/

theorem sum_upto_succ (t : Fin 4 → EReal) (j : Fin 4) (k : ℕ) (h : j.val + 1 + k < 4) :
    (∑ n : Fin 4, if j ≤ n ∧ n.val ≤ j.val + (k + 1) then t n else 0)
      = (∑ n : Fin 4, if j ≤ n ∧ n.val ≤ j.val + k then t n else 0) + t ⟨j.val + 1 + k, h⟩ := by
  rw [show t ⟨j.val + 1 + k, h⟩ = ∑ n : Fin 4, if n = ⟨j.val + 1 + k, h⟩ then t n else 0 by
    rw [Finset.sum_ite_eq' Finset.univ]; simp, ← Finset.sum_add_distrib]
  refine Finset.sum_congr rfl fun n _ => ?_
  by_cases hn : n = ⟨j.val + 1 + k, h⟩
  · subst hn
    rw [if_pos ⟨by show j.val ≤ j.val + 1 + k; omega, by show j.val + 1 + k ≤ _; omega⟩, if_neg (by rintro ⟨-, h2⟩; simp only at h2; omega), if_pos rfl, zero_add]
  · rw [if_neg hn, add_zero]
    have hn' : n.val ≠ j.val + 1 + k := fun e => hn (Fin.ext e)
    refine if_congr (and_congr_right fun _ => by omega) rfl rfl

/-- One element of one gradient, to which every step adds its term. -/
theorem steps_at (j : Fin 4) (D : Vec Ideal S1x4096x128 .f32) (f : Grads Ideal → EReal) (t : Fin 4 → EReal)
    (hd : ∀ s, f (diagStep x0 x1 x2 x3 x4 x5 j s) = f s + t j)
    (ho : ∀ n, j < n → ∀ s, f (offStep x0 x3 x4 x5 (k0_pay22 x1) (k0_pay23 x2) n s) = f s + t n) :
    ∀ k, j.val + k < 4 → f (steps x0 x1 x2 x3 x4 x5 j D k)
      = f (D, k0_pay20 (F := Ideal), k0_pay21 (F := Ideal)) + ∑ n : Fin 4, if j ≤ n ∧ n.val ≤ j.val + k then t n else 0
  | 0, _ => by
    refine (hd _).trans (congrArg _ ?_)
    rw [Finset.sum_eq_single j]
    · rw [if_pos ⟨le_refl _, by omega⟩]
    · intro n _ hn
      rw [if_neg]
      rintro ⟨h1, h2⟩
      exact hn (le_antisymm (by show n.val ≤ j.val; omega) h1)
    · intro h; exact absurd (Finset.mem_univ _) h
  | k + 1, hk => by
    rw [steps_succ _ _ _ _ _ _ _ _ _ (by omega), ho _ (by show j.val < j.val + 1 + k; omega), steps_at j D f t hd ho k (by omega), sum_upto_succ t j k (by omega), add_assoc]

theorem point_at (j : Fin 4) (D : Vec Ideal S1x4096x128 .f32) (f : Grads Ideal → EReal) (t : Fin 4 → EReal)
    (hd : ∀ s, f (diagStep x0 x1 x2 x3 x4 x5 j s) = f s + t j)
    (ho : ∀ n, j < n → ∀ s, f (offStep x0 x3 x4 x5 (k0_pay22 x1) (k0_pay23 x2) n s) = f s + t n)
    (h0 : ∀ n, n < j → t n = 0) :
    f (point x0 x1 x2 x3 x4 x5 j D) = f (D, k0_pay20 (F := Ideal), k0_pay21 (F := Ideal)) + ∑ n : Fin 4, t n := by
  unfold point
  rw [steps_at x0 x1 x2 x3 x4 x5 j D f t hd ho _ (by omega)]
  refine congrArg _ (Finset.sum_congr rfl fun n _ => ?_)
  by_cases h : j ≤ n
  · rw [if_pos ⟨h, by omega⟩]
  · rw [if_neg (fun e => h e.1), h0 n (lt_of_not_ge h)]

/-- A sum over the rows, block by block. -/
theorem sum_rows (f : Fin 4096 → EReal) : ∑ n : Fin 4, ∑ r : Fin 1024, f (row n r) = ∑ q : Fin 4096, f q := by
  rw [← Finset.sum_product']
  refine Finset.sum_bij (fun a _ => row a.1 a.2) (fun _ _ => Finset.mem_univ _) ?_ ?_ (fun _ _ => rfl)
  · rintro ⟨n, r⟩ _ ⟨n', r'⟩ _ h
    have h' : 1024 * n.val + r.val = 1024 * n'.val + r'.val := congrArg Fin.val h
    exact Prod.ext (Fin.ext (by show n.val = n'.val; omega)) (Fin.ext (by show r.val = r'.val; omega))
  · intro q _
    exact ⟨(⟨q.val / 1024, by omega⟩, ⟨q.val % 1024, by omega⟩), Finset.mem_univ _, Fin.ext (by show 1024 * (q.val / 1024) + q.val % 1024 = q.val; omega)⟩

/-- What the point of key block `j` adds to the query gradients, -/
theorem point_q (j : Fin 4) (D : Vec Ideal S1x4096x128 .f32) (q : Fin 4096) (d : Fin 128) :
    (point x0 x1 x2 x3 x4 x5 j D).1 (ix3 0 q d) = D (ix3 0 q d) + ∑ k : Fin 1024, dsm x0 x1 x2 x3 x4 x5 j q k * x1 (ix3 0 k d) := by
  rw [point_at x0 x1 x2 x3 x4 x5 j D (fun s => s.1 (ix3 0 q d)) (tq x0 x1 x2 x3 x4 x5 j q d)
    (fun s => diag_q x0 x1 x2 x3 x4 x5 j s q d) (fun n h s => off_q x0 x1 x2 x3 x4 x5 j n h s q d) ?_]
  · refine congrArg _ ?_
    rw [Finset.sum_eq_single (⟨q.val / 1024, by omega⟩ : Fin 4)]
    · unfold tq; rw [if_pos rfl]
    · intro n _ hn
      unfold tq; rw [if_neg fun e => hn (Fin.ext e.symm)]
    · intro h; exact absurd (Finset.mem_univ _) h
  · intro n h
    unfold tq
    split
    · next hq =>
      rw [row_split q n hq]
      exact Finset.sum_eq_zero fun k _ => by rw [dsm_past _ _ _ _ _ _ _ _ h, zero_mul]
    · rfl

/-- what it leaves of the gradient of its keys, -/
theorem point_k (j : Fin 4) (D : Vec Ideal S1x4096x128 .f32) (k : Fin 1024) (d : Fin 128) :
    (point x0 x1 x2 x3 x4 x5 j D).2.1 (ix3 0 k d) = ∑ q : Fin 4096, dsm x0 x1 x2 x3 x4 x5 j q k * x0 (ix3 0 q d) := by
  rw [point_at x0 x1 x2 x3 x4 x5 j D (fun s => s.2.1 (ix3 0 k d)) (tk x0 x1 x2 x3 x4 x5 j k d)
    (fun s => diag_k x0 x1 x2 x3 x4 x5 j s k d) (fun n h s => off_k x0 x1 x2 x3 x4 x5 j n h s k d) ?_]
  · unfold tk
    rw [sum_rows fun q => dsm x0 x1 x2 x3 x4 x5 j q k * x0 (ix3 0 q d)]
    pointwise [k0_pay20]
  · intro n h
    exact Finset.sum_eq_zero fun r _ => by rw [dsm_past _ _ _ _ _ _ _ _ h, zero_mul]

/-- and of its values. -/
theorem point_v (j : Fin 4) (D : Vec Ideal S1x4096x128 .f32) (k : Fin 1024) (d : Fin 64) :
    (point x0 x1 x2 x3 x4 x5 j D).2.2 (ix3 0 k d) = ∑ q : Fin 4096, pm x0 x1 x4 j q k * x5 (ix3 0 q d) := by
  rw [point_at x0 x1 x2 x3 x4 x5 j D (fun s => s.2.2 (ix3 0 k d)) (tv x0 x1 x4 x5 j k d)
    (fun s => diag_v x0 x1 x2 x3 x4 x5 j s k d) (fun n h s => off_v x0 x1 x2 x3 x4 x5 j n h s k d) ?_]
  · unfold tv
    rw [sum_rows fun q => pm x0 x1 x4 j q k * x5 (ix3 0 q d)]
    pointwise [k0_pay21]
  · intro n h
    exact Finset.sum_eq_zero fun r _ => by rw [pm_past _ _ _ _ _ h, zero_mul]

end

end Cert.KernelIdeal.Body

end
-- ==== Proof.Flash.lean ====
/- The gradients of the flash attention as plain sums over the extended reals, from the arrays that the backward pass
   takes: queries, keys, values, the attention's output, the saved log-sums and the gradient of the output. -/
module

public import Idealize.ShloMosaic.Lib.Pointwise

@[expose] public section

noncomputable section

namespace Cert.Flash

open Idealize.ShloMosaic

variable (Q K : Fin 4 → Fin 4096 → Fin 128 → EReal) (V O D : Fin 4 → Fin 4096 → Fin 64 → EReal) (L : Fin 4 → Fin 4096 → EReal)

/-- The scale of the scores, as an extended real. -/
def cE : EReal := Ideal.ofBits .f32 0x3DD105EC#32

/-- The probability that head `h` gives key `k` for query `q`, recomputed from the saved log-sum. -/
def prob (h : Fin 4) (q k : Fin 4096) : EReal :=
  if k.val ≤ q.val then Ideal.exp ((∑ d, Q h q d * K h k d) * cE - L h q) else 0

/-- The gradient of the score of query `q` and key `k`. -/
def dscore (h : Fin 4) (q k : Fin 4096) : EReal :=
  prob Q K L h q k * ((∑ d, D h q d * V h k d) - ∑ d, D h q d * O h q d) * cE

/-- The gradients of the queries, keys and values. -/
def gradQ (h : Fin 4) (q : Fin 4096) (d : Fin 128) : EReal := ∑ k, dscore Q K V O D L h q k * K h k d
def gradK (h : Fin 4) (k : Fin 4096) (d : Fin 128) : EReal := ∑ q, dscore Q K V O D L h q k * Q h q d
def gradV (h : Fin 4) (k : Fin 4096) (d : Fin 64) : EReal := ∑ q, prob Q K L h q k * D h q d

end Cert.Flash

end
-- ==== Proof.Places.lean ====
/- Where the blocks of a grid point stand in the arrays of the launch, and what they hold. -/
module

public import proofs.«01_k».proof.Proof.Launch
public import proofs.«01_k».proof.Proof.BlockValue
public import proofs.«01_k».proof.Proof.Flash
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

variable (m : (ℓ : Loc nD τ sig) → Buf (Elt Ideal) ℓ)

/-- The operand arrays of the launch, by head, row and lane. -/
def Qa (c : Dev nD) (h : Fin 4) (q : Fin 4096) (d : Fin 128) : EReal := V m c main_v44 (ix3 h q d)
def Ka (c : Dev nD) (h : Fin 4) (k : Fin 4096) (d : Fin 128) : EReal := V m c main_v47 (ix3 h k d)
def Va (c : Dev nD) (h : Fin 4) (k : Fin 4096) (d : Fin 64) : EReal := V m c main_v50 (ix3 h k d)
def Oa (c : Dev nD) (h : Fin 4) (q : Fin 4096) (d : Fin 64) : EReal := V m c main_v52 (ix3 h q d)
def Da (c : Dev nD) (h : Fin 4) (q : Fin 4096) (d : Fin 64) : EReal := V m c main_v54 (ix3 h q d)
def La (c : Dev nD) (h : Fin 4) (q : Fin 4096) : EReal := V m c main_v41 (ix3 h q 0)

/-- The head and the key block of a grid point. -/
abbrev hd (t : Fin cfg0.N) : Fin 4 := grid0.coords t 0
abbrev kb (t : Fin cfg0.N) : Fin 4 := grid0.coords t 1

theorem hd_val (t : Fin cfg0.N) : (hd t).val = t.val / 4 := by
  have ht : t.val < 16 := Nat.lt_of_lt_of_eq t.isLt N_0
  have e := Pipeline.Grid.coords_val (G := grid0) t 0 (S := 4) (B := 4) (by decide) rfl
  show (grid0.coords t 0).val = _
  rw [e]; omega
theorem kb_val (t : Fin cfg0.N) : (kb t).val = t.val % 4 := by
  have e := Pipeline.Grid.coords_val (G := grid0) t 1 (S := 1) (B := 4) (by decide) rfl
  show (grid0.coords t 1).val = _
  rw [e]; omega

theorem idx0 (t : Fin cfg0.N) : win0_0.index t = ![(hd t).val, 0, 0] :=
  (by decide +kernel : ∀ t : Fin grid0.N, win0_0.index t = ![(hd t).val, 0, 0]) t
theorem idx1 (t : Fin cfg0.N) : win0_1.index t = ![(hd t).val, (kb t).val, 0] :=
  (by decide +kernel : ∀ t : Fin grid0.N, win0_1.index t = ![(hd t).val, (kb t).val, 0]) t
theorem idx2 (t : Fin cfg0.N) : win0_2.index t = ![(hd t).val, (kb t).val, 0] :=
  (by decide +kernel : ∀ t : Fin grid0.N, win0_2.index t = ![(hd t).val, (kb t).val, 0]) t
theorem idx3 (t : Fin cfg0.N) : win0_3.index t = ![(hd t).val, 0, 0] :=
  (by decide +kernel : ∀ t : Fin grid0.N, win0_3.index t = ![(hd t).val, 0, 0]) t
theorem idx4 (t : Fin cfg0.N) : win0_4.index t = ![(hd t).val, 0, 0] :=
  (by decide +kernel : ∀ t : Fin grid0.N, win0_4.index t = ![(hd t).val, 0, 0]) t
theorem idx5 (t : Fin cfg0.N) : win0_5.index t = ![(hd t).val, 0, 0] :=
  (by decide +kernel : ∀ t : Fin grid0.N, win0_5.index t = ![(hd t).val, 0, 0]) t
theorem idx6 (t : Fin cfg0.N) : win0_6.index t = ![(hd t).val, 0, 0] :=
  (by decide +kernel : ∀ t : Fin grid0.N, win0_6.index t = ![(hd t).val, 0, 0]) t
theorem idx7 (t : Fin cfg0.N) : win0_7.index t = ![(hd t).val, (kb t).val, 0] :=
  (by decide +kernel : ∀ t : Fin grid0.N, win0_7.index t = ![(hd t).val, (kb t).val, 0]) t
theorem idx8 (t : Fin cfg0.N) : win0_8.index t = ![(hd t).val, (kb t).val, 0] :=
  (by decide +kernel : ∀ t : Fin grid0.N, win0_8.index t = ![(hd t).val, (kb t).val, 0]) t

/-! Where a block's elements stand in the array. -/

theorem emb0 (t : Fin cfg0.N) (r : Fin 4096) (d : Fin 128) : (win0_0.blk t).view.emb (ix3 0 r d) = ix3 (hd t) r d := by
  blk_ext [idx0 t]
theorem emb1 (t : Fin cfg0.N) (r : Fin 1024) (d : Fin 128) : (win0_1.blk t).view.emb (ix3 0 r d) = ix3 (hd t) (row (kb t) r) d := by
  blk_ext [idx1 t]
theorem emb2 (t : Fin cfg0.N) (r : Fin 1024) (d : Fin 64) : (win0_2.blk t).view.emb (ix3 0 r d) = ix3 (hd t) (row (kb t) r) d := by
  blk_ext [idx2 t]
theorem emb3 (t : Fin cfg0.N) (r : Fin 4096) (d : Fin 64) : (win0_3.blk t).view.emb (ix3 0 r d) = ix3 (hd t) r d := by
  blk_ext [idx3 t]
theorem emb4 (t : Fin cfg0.N) (r : Fin 4096) : (win0_4.blk t).view.emb (ix3 0 r 0) = ix3 (hd t) r 0 := by
  blk_ext [idx4 t]
theorem emb5 (t : Fin cfg0.N) (r : Fin 4096) (d : Fin 64) : (win0_5.blk t).view.emb (ix3 0 r d) = ix3 (hd t) r d := by
  blk_ext [idx5 t]
theorem emb6 (t : Fin cfg0.N) (r : Fin 4096) (d : Fin 128) : (win0_6.blk t).view.emb (ix3 0 r d) = ix3 (hd t) r d := by
  blk_ext [idx6 t]
theorem emb7 (t : Fin cfg0.N) (r : Fin 1024) (d : Fin 128) : (win0_7.blk t).view.emb (ix3 0 r d) = ix3 (hd t) (row (kb t) r) d := by
  blk_ext [idx7 t]
theorem emb8 (t : Fin cfg0.N) (r : Fin 1024) (d : Fin 64) : (win0_8.blk t).view.emb (ix3 0 r d) = ix3 (hd t) (row (kb t) r) d := by
  blk_ext [idx8 t]

/-! The blocks that the body finds. -/

theorem read0 (c : Dev nD) (t : Fin cfg0.N) (r : Fin 4096) (d : Fin 128) : iblk m c 0 t (ix3 0 r d) = Qa m c (hd t) r d :=
  congrArg (V m c main_v44) (emb0 t r d)
theorem read1 (c : Dev nD) (t : Fin cfg0.N) (r : Fin 1024) (d : Fin 128) : iblk m c 1 t (ix3 0 r d) = Ka m c (hd t) (row (kb t) r) d :=
  congrArg (V m c main_v47) (emb1 t r d)
theorem read2 (c : Dev nD) (t : Fin cfg0.N) (r : Fin 1024) (d : Fin 64) : iblk m c 2 t (ix3 0 r d) = Va m c (hd t) (row (kb t) r) d :=
  congrArg (V m c main_v50) (emb2 t r d)
theorem read3 (c : Dev nD) (t : Fin cfg0.N) (r : Fin 4096) (d : Fin 64) : iblk m c 3 t (ix3 0 r d) = Oa m c (hd t) r d :=
  congrArg (V m c main_v52) (emb3 t r d)
theorem read4 (c : Dev nD) (t : Fin cfg0.N) (r : Fin 4096) : iblk m c 4 t (ix3 0 r 0) = La m c (hd t) r := by
  have key : ∀ A : Buf (Elt Ideal) ((c : Thread nD τ).loc main_v41),
      ((cfg0.win 4).blk t).view.read (Elt Ideal) A (ix3 0 r 0) = A (ix3 (hd t) r 0) := fun A => congrArg A (emb4 t r)
  exact key (V m c main_v41)
theorem read5 (c : Dev nD) (t : Fin cfg0.N) (r : Fin 4096) (d : Fin 64) : iblk m c 5 t (ix3 0 r d) = Da m c (hd t) r d :=
  congrArg (V m c main_v54) (emb5 t r d)

end Cert.KernelIdeal.Body

end
-- ==== Proof.Arrays.lean ====
/- What the three result arrays hold after the launch: the gradients as sums over the operand arrays. -/
module

public import proofs.«01_k».proof.Proof.Places
public import proofs.«01_k».proof.Proof.BlockValue
public import proofs.«01_k».proof.Proof.Flash
public import Idealize.ShloMosaic.Lib.Pipeline.ValueKit

@[expose] public section

set_option maxRecDepth 16384

noncomputable section

namespace Cert.KernelIdeal.Body

open Idealize.ShloMosaic Idealize.ShloMosaic.TcCoe Idealize.ShloMosaic.Tactic
open Cert.KernelIdeal Cert.KernelIdeal.Gen

variable (m : (ℓ : Loc nD τ sig) → Buf (Elt Ideal) ℓ)

theorem pm_point (c : Dev nD) (t : Fin cfg0.N) (q : Fin 4096) (k : Fin 1024) :
    pm (iblk m c 0 t) (iblk m c 1 t) (iblk m c 4 t) (kb t) q k
      = Flash.prob (Qa m c) (Ka m c) (La m c) (hd t) q (row (kb t) k) := by
  unfold pm Flash.prob
  simp only [read0, read1, read4]
  rfl

theorem dsm_point (c : Dev nD) (t : Fin cfg0.N) (q : Fin 4096) (k : Fin 1024) :
    dsm (iblk m c 0 t) (iblk m c 1 t) (iblk m c 2 t) (iblk m c 3 t) (iblk m c 4 t) (iblk m c 5 t) (kb t) q k
      = Flash.dscore (Qa m c) (Ka m c) (Va m c) (Oa m c) (Da m c) (La m c) (hd t) q (row (kb t) k) := by
  unfold dsm Flash.dscore
  simp only [pm_point, read2, read3, read5]
  rfl

/-- The gradients of the keys and of the values that a point leaves. -/
theorem outs_k (c : Dev nD) (t : Fin cfg0.N) (k : Fin 1024) (d : Fin 128) :
    (outs m c t.val t.isLt).2.1 (ix3 0 k d)
      = Flash.gradK (Qa m c) (Ka m c) (Va m c) (Oa m c) (Da m c) (La m c) (hd t) (row (kb t) k) d := by
  have h : ∀ D, (pointAt m c t D).2.1 (ix3 0 k d) = _ := fun D => point_k _ _ _ _ _ _ (kb t) D k d
  unfold Flash.gradK
  by_cases ht : t.val % 4 = 0
  · rw [outs_first m c t ht, h]
    exact Finset.sum_congr rfl fun q _ => by rw [dsm_point, read0]
  · rw [outs_later m c t ht, h]
    exact Finset.sum_congr rfl fun q _ => by rw [dsm_point, read0]

theorem outs_v (c : Dev nD) (t : Fin cfg0.N) (k : Fin 1024) (d : Fin 64) :
    (outs m c t.val t.isLt).2.2 (ix3 0 k d) = Flash.gradV (Qa m c) (Ka m c) (Da m c) (La m c) (hd t) (row (kb t) k) d := by
  have h : ∀ D, (pointAt m c t D).2.2 (ix3 0 k d) = _ := fun D => point_v _ _ _ _ _ _ (kb t) D k d
  unfold Flash.gradV
  by_cases ht : t.val % 4 = 0
  · rw [outs_first m c t ht, h]
    exact Finset.sum_congr rfl fun q _ => by rw [pm_point, read5]
  · rw [outs_later m c t ht, h]
    exact Finset.sum_congr rfl fun q _ => by rw [pm_point, read5]

/-- What one key block adds to the gradient of a query. -/
def termQ (c : Dev nD) (t : Fin cfg0.N) (q : Fin 4096) (d : Fin 128) : EReal :=
  ∑ k : Fin 1024, Flash.dscore (Qa m c) (Ka m c) (Va m c) (Oa m c) (Da m c) (La m c) (hd t) q (row (kb t) k) * Ka m c (hd t) (row (kb t) k) d

theorem point_termQ (c : Dev nD) (t : Fin cfg0.N) (D : Vec Ideal S1x4096x128 .f32) (q : Fin 4096) (d : Fin 128) :
    (pointAt m c t D).1 (ix3 0 q d) = D (ix3 0 q d) + termQ m c t q d := by
  refine (point_q _ _ _ _ _ _ (kb t) D q d).trans (congrArg _ ?_)
  exact Finset.sum_congr rfl fun k _ => by rw [dsm_point, read1]

/-- The gradients of the queries after the last key block of a head. -/
theorem outs_q (c : Dev nD) (t : Fin cfg0.N) (ht : t.val % 4 = 4 - 1) (q : Fin 4096) (d : Fin 128) :
    (outs m c t.val t.isLt).1 (ix3 0 q d)
      = Flash.gradQ (Qa m c) (Ka m c) (Va m c) (Oa m c) (Da m c) (La m c) (hd t) q d := by
  refine (Pipeline.eq_sum_fin_of_reset_step_apply_of_flush (fun n h (i : Fin 4096 × Fin 128) => (outs m c n h).1 (ix3 0 i.1 i.2)) 4
    (fun _ => 0) (fun t i => termQ m c t i.1 i.2) ?_ ?_ t ht (q, d)).trans ?_
  · intro t h i
    show (outs m c t.val t.isLt).1 _ = _
    rw [outs_first m c t h, point_termQ]
    exact congrArg (· + _) (by pointwise [k0_pay19])
  · intro t h i
    show (outs m c t.val t.isLt).1 _ = _
    rw [outs_later m c t h, point_termQ]
  · unfold Flash.gradQ
    rw [zero_add, ← sum_rows]
    refine Finset.sum_congr rfl fun s _ => ?_
    have hN : t.val < 16 := Nat.lt_of_lt_of_eq t.isLt N_0
    unfold termQ
    have e1 : hd ⟨4 * (t.val / 4) + s.val, Pipeline.run_point_lt_of_flush t ht s⟩ = hd t := Fin.ext (by
      rw [hd_val, hd_val]; show (4 * (t.val / 4) + s.val) / 4 = _; omega)
    have e2 : kb ⟨4 * (t.val / 4) + s.val, Pipeline.run_point_lt_of_flush t ht s⟩ = s := Fin.ext (by
      rw [kb_val]; show (4 * (t.val / 4) + s.val) % 4 = _; omega)
    rw [e1, e2]

/-! ## The arrays after the run -/

theorem final_q (c : Dev nD) : (dats m 0 c).arrAt 6 cfg0.N
    = fun i => Flash.gradQ (Qa m c) (Ka m c) (Va m c) (Oa m c) (Da m c) (La m c) (i 0) (i 1) (i 2) := by
  refine (dats m 0 c).arrAt_eq_of_covers 6 _ (by decide +kernel) fun t hf y => ?_
  blk_simp
  rw [after0_6]
  have hy : y = ix3 0 (y 1) (y 2) := by blk_ext
  rw [hy]
  refine (outs_q m c t ((flush0_6 t).mp hf) (y 1) (y 2)).trans ?_
  exact (congrArg (fun i : S4x4096x128.Idx => Flash.gradQ (Qa m c) (Ka m c) (Va m c) (Oa m c) (Da m c) (La m c) (i 0) (i 1) (i 2)) (emb6 t (y 1) (y 2))).symm

theorem final_k (c : Dev nD) : (dats m 0 c).arrAt 7 cfg0.N
    = fun i => Flash.gradK (Qa m c) (Ka m c) (Va m c) (Oa m c) (Da m c) (La m c) (i 0) (i 1) (i 2) := by
  refine (dats m 0 c).arrAt_eq_of_covers 7 _ (by decide +kernel) fun t hf y => ?_
  blk_simp
  rw [after0_7]
  have hy : y = ix3 0 (y 1) (y 2) := by blk_ext
  rw [hy]
  refine (outs_k m c t (y 1) (y 2)).trans ?_
  exact (congrArg (fun i : S4x4096x128.Idx => Flash.gradK (Qa m c) (Ka m c) (Va m c) (Oa m c) (Da m c) (La m c) (i 0) (i 1) (i 2)) (emb7 t (y 1) (y 2))).symm

theorem final_v (c : Dev nD) : (dats m 0 c).arrAt 8 cfg0.N
    = fun i => Flash.gradV (Qa m c) (Ka m c) (Da m c) (La m c) (i 0) (i 1) (i 2) := by
  refine (dats m 0 c).arrAt_eq_of_covers 8 _ (by decide +kernel) fun t hf y => ?_
  blk_simp
  rw [after0_8]
  have hy : y = ix3 0 (y 1) (y 2) := by blk_ext
  rw [hy]
  refine (outs_v m c t (y 1) (y 2)).trans ?_
  exact (congrArg (fun i : S4x4096x64.Idx => Flash.gradV (Qa m c) (Ka m c) (Da m c) (La m c) (i 0) (i 1) (i 2)) (emb8 t (y 1) (y 2))).symm

end Cert.KernelIdeal.Body

end
-- ==== Proof.Softmax.lean ====
/- Causal softmax attention and its gradients as plain sums over the extended reals, as a sequence of arrays gives them. -/
module

public import proofs.«01_k».proof.Proof.Flash
public import Idealize.ShloMosaic.Lib.WordCmp

@[expose] public section

noncomputable section

namespace Cert.Softmax

open Idealize.ShloMosaic
open Cert.Flash (cE)

/-- An array of positions, heads and lanes, read by head. -/
def byHead {n : ℕ} (x : (⟨3, ![4096, 4, n]⟩ : Shape).Idx → EReal) (h : Fin 4) (i : Fin 4096) (d : Fin n) : EReal := x (ix3 i h d)

variable (Q K : Fin 4 → Fin 4096 → Fin 96 → EReal) (V C : Fin 4 → Fin 4096 → Fin 64 → EReal)

/-- The scaled score of query `i` and key `j`; the keys after the query are masked. -/
def score (h : Fin 4) (i j : Fin 4096) : EReal := if j.val ≤ i.val then (∑ d, Q h i d * K h j d) * cE else Ideal.ofBits .f32 0xFF800000#32

/-- The largest score of a query. -/
def top (h : Fin 4) (i : Fin 4096) : EReal := Finset.fold max (Ideal.ofBits .f32 0xFF800000#32) (fun j => score Q K h i j) Finset.univ

/-- The shifted exponentials and their sum. -/
def expo (h : Fin 4) (i j : Fin 4096) : EReal := Ideal.exp (score Q K h i j - top Q K h i)
def total (h : Fin 4) (i : Fin 4096) : EReal := ∑ j, expo Q K h i j

/-- The attention's output, and the log-sum that the forward pass saves. -/
def out (h : Fin 4) (i : Fin 4096) (d : Fin 64) : EReal := ∑ j, V h j d * Ideal.div (expo Q K h i j) (total Q K h i)
def logSum (h : Fin 4) (i : Fin 4096) : EReal := top Q K h i + Ideal.log (total Q K h i)

/-- The gradient of the probability of key `j`, and of its score. -/
def gradProb (h : Fin 4) (i j : Fin 4096) : EReal := ∑ d, C h i d * V h j d
def weighted (h : Fin 4) (i : Fin 4096) : EReal :=
  ∑ j, gradProb V C h i j * Ideal.div 1 (total Q K h i * total Q K h i) * expo Q K h i j
def gradScore (h : Fin 4) (i j : Fin 4096) : EReal :=
  (if j.val ≤ i.val then (Ideal.div (gradProb V C h i j) (total Q K h i) + -weighted Q K V C h i) * expo Q K h i j else 0) * cE

/-! ## Words of the mask -/

theorem toInt_pos (a : Fin 4096) : (BitVec.ofNat 32 a.val).toInt = a.val := by
  rw [BitVec.toInt_eq_toNat_cond, BitVec.toNat_ofNat, Nat.mod_eq_of_lt (by omega), if_pos (by omega)]

theorem select_le {α : Type} (i j : Fin 4096) (x y : α) :
    Scalar.select (IntOp.cmpi .sle (BitVec.ofNat 32 j.val) (BitVec.ofNat 32 i.val)) x y = if j.val ≤ i.val then x else y := by
  unfold Scalar.select
  rw [WordCmp.cmpi_sle_eq, toInt_pos, toInt_pos]
  refine if_congr ?_ rfl rfl
  rw [show ∀ p : Bool, (BitVec.ofBool p = 1) = (p = true) by decide, decide_eq_true_iff]
  omega

theorem ofBits_bot : Ideal.ofBits .f32 0xFF800000#32 = ⊥ := by
  simp [Ideal.ofBits, Ideal.ieee]

theorem max_bot (x : EReal) : max (Ideal.ofBits .f32 0xFF800000#32) x = x := by
  rw [ofBits_bot]; exact bot_sup_eq x

end Cert.Softmax

end
-- ==== Proof.RefArrays.lean ====
/- The reference's intermediate arrays, named, and each at an index. -/
module

public import proofs.«01_k».proof.Proof.Gen.ReferenceIdeal.Run
public import proofs.«01_k».proof.Proof.Softmax
public import Idealize.ShloMosaic.Lib.StableHlo.ReadAt
public import Idealize.ShloMosaic.Lib.Pointwise

@[expose] public section

set_option maxRecDepth 16384

noncomputable section

namespace Cert.ReferenceIdeal.Arrays

open Idealize.ShloMosaic Idealize.ShloMosaic.TcCoe Idealize.ShloMosaic.Tactic
open Cert.ReferenceIdeal Cert.ReferenceIdeal.Gen
open Cert.Softmax (byHead)

/-- The scaled scores, masked. -/
def scores (q : FVec Idealize.ShloMosaic.Ideal S4096x4x96 .f32) (k : FVec Idealize.ShloMosaic.Ideal S4096x4x96 .f32) : FVec Idealize.ShloMosaic.Ideal S4x4096x4096 .f32 :=
  select (broadcastInDim S4x4096x4096 ![1, 2] bcast_S4096x4096_S4x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (mulf (Host.dotGeneral dot_S4096x4x96_S4096x4x96_S4x4096x4096_2_2_0_0_1_1 none q k) (broadcastInDim S4x4096x4096 ![] bcast_S_S4x4096x4096 (constant S_ .f32 0x3DD105EC#32))) (broadcastInDim S4x4096x4096 ![] bcast_S_S4x4096x4096 (id (constant S_ .f32 0xFF800000#32)))

/-- Their largest value per query. -/
def rowMax (q : FVec Idealize.ShloMosaic.Ideal S4096x4x96 .f32) (k : FVec Idealize.ShloMosaic.Ideal S4096x4x96 .f32) : FVec Idealize.ShloMosaic.Ideal S4x4096 .f32 :=
  Host.reduce FloatOps.maximumf (scores q k) (constant S_ .f32 0xFF800000#32) reducesTo_S4x4096x4096_S4x4096_d2 h_S_

/-- The same, not below −∞. -/
def rowTop (q : FVec Idealize.ShloMosaic.Ideal S4096x4x96 .f32) (k : FVec Idealize.ShloMosaic.Ideal S4096x4x96 .f32) : FVec Idealize.ShloMosaic.Ideal S4x4096 .f32 :=
  maximumf (broadcastInDim S4x4096 ![] bcast_S_S4x4096 (constant S_ .f32 0xFF800000#32)) (rowMax q k)

/-- The exponentials, shifted by the largest score. -/
def expo (q : FVec Idealize.ShloMosaic.Ideal S4096x4x96 .f32) (k : FVec Idealize.ShloMosaic.Ideal S4096x4x96 .f32) : FVec Idealize.ShloMosaic.Ideal S4x4096x4096 .f32 :=
  Host.exp (subf (scores q k) (broadcastInDim S4x4096x4096 ![0, 1, 2] bcast_S4x4096x1_S4x4096x4096_0_1_2 (broadcastInDim S4x4096x1 ![0, 1] bcast_S4x4096_S4x4096x1_0_1 (rowTop q k))))

/-- Their sum per query. -/
def rowSum (q : FVec Idealize.ShloMosaic.Ideal S4096x4x96 .f32) (k : FVec Idealize.ShloMosaic.Ideal S4096x4x96 .f32) : FVec Idealize.ShloMosaic.Ideal S4x4096 .f32 :=
  Host.reduceAdd (expo q k) (constant S_ .f32 0x00000000#32) reducesTo_S4x4096x4096_S4x4096_d2 h_S_

/-- The gradient of the probabilities. -/
def gradProb (v : FVec Idealize.ShloMosaic.Ideal S4096x4x64 .f32) (ct : FVec Idealize.ShloMosaic.Ideal S4096x4x64 .f32) : FVec Idealize.ShloMosaic.Ideal S4x4096x4096 .f32 :=
  Host.dotGeneral dot_S4x64x4096_S4096x4x64_S4x4096x4096_1_2_2_0_0_1 none (transpose S4x64x4096 [1, 2, 0] ct transposes_S4096x4x64_S4x64x4096_1_2_0) v

/-- The sum over the keys of gradient, squared reciprocal and exponential. -/
def weighted (q : FVec Idealize.ShloMosaic.Ideal S4096x4x96 .f32) (k : FVec Idealize.ShloMosaic.Ideal S4096x4x96 .f32) (v : FVec Idealize.ShloMosaic.Ideal S4096x4x64 .f32) (ct : FVec Idealize.ShloMosaic.Ideal S4096x4x64 .f32) : FVec Idealize.ShloMosaic.Ideal S4x4096 .f32 :=
  Host.reduceAdd (mulf (mulf (gradProb v ct) (broadcastInDim S4x4096x4096 ![0, 1, 2] bcast_S4x4096x1_S4x4096x4096_0_1_2 (Host.divf (broadcastInDim S4x4096x1 ![] bcast_S_S4x4096x1 (constant S_ .f32 0x3F800000#32)) (mulf (broadcastInDim S4x4096x1 ![0, 1] bcast_S4x4096_S4x4096x1_0_1 (rowSum q k)) (broadcastInDim S4x4096x1 ![0, 1] bcast_S4x4096_S4x4096x1_0_1 (rowSum q k)))))) (expo q k)) (constant S_ .f32 0x00000000#32) reducesTo_S4x4096x4096_S4x4096_d2 h_S_

/-- That sum, negated. -/
def shift (q : FVec Idealize.ShloMosaic.Ideal S4096x4x96 .f32) (k : FVec Idealize.ShloMosaic.Ideal S4096x4x96 .f32) (v : FVec Idealize.ShloMosaic.Ideal S4096x4x64 .f32) (ct : FVec Idealize.ShloMosaic.Ideal S4096x4x64 .f32) : FVec Idealize.ShloMosaic.Ideal S4x4096 .f32 :=
  Host.reduceAdd (Host.negf (shapeCast S4x4096x1 (weighted q k v ct) shapeCasts_S4x4096_S4x4096x1)) (constant S_ .f32 0x00000000#32) reducesTo_S4x4096x1_S4x4096_d2 h_S_

/-- The gradient of the scores. -/
def gradScore (q : FVec Idealize.ShloMosaic.Ideal S4096x4x96 .f32) (k : FVec Idealize.ShloMosaic.Ideal S4096x4x96 .f32) (v : FVec Idealize.ShloMosaic.Ideal S4096x4x64 .f32) (ct : FVec Idealize.ShloMosaic.Ideal S4096x4x64 .f32) : FVec Idealize.ShloMosaic.Ideal S4x4096x4096 .f32 :=
  mulf (select (broadcastInDim S4x4096x4096 ![1, 2] bcast_S4096x4096_S4x4096x4096_1_2 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) (mulf (addf (Host.divf (gradProb v ct) (broadcastInDim S4x4096x4096 ![0, 1, 2] bcast_S4x4096x1_S4x4096x4096_0_1_2 (broadcastInDim S4x4096x1 ![0, 1] bcast_S4x4096_S4x4096x1_0_1 (rowSum q k)))) (broadcastInDim S4x4096x4096 ![0, 1] bcast_S4x4096_S4x4096x4096_0_1 (shift q k v ct))) (expo q k)) (broadcastInDim S4x4096x4096 ![] bcast_S_S4x4096x4096 (constant S_ .f32 0x00000000#32))) (broadcastInDim S4x4096x4096 ![] bcast_S_S4x4096x4096 (constant S_ .f32 0x3DD105EC#32))

/-- The gradient of the queries. -/
def gradQ (q : FVec Idealize.ShloMosaic.Ideal S4096x4x96 .f32) (k : FVec Idealize.ShloMosaic.Ideal S4096x4x96 .f32) (v : FVec Idealize.ShloMosaic.Ideal S4096x4x64 .f32) (ct : FVec Idealize.ShloMosaic.Ideal S4096x4x64 .f32) : FVec Idealize.ShloMosaic.Ideal S4x4096x128 .f32 :=
  pad S4x4096x128 ![0, 0, 0] ![0, 0, 32] ![0, 0, 0] (transpose S4x4096x96 [1, 0, 2] (transpose S4096x4x96 [1, 0, 2] (Host.dotGeneral dot_S4x4096x4096_S4096x4x96_S4x4096x96_2_0_1_2_0_1 none (gradScore q k v ct) k) transposes_S4x4096x96_S4096x4x96_1_0_2) transposes_S4096x4x96_S4x4096x96_1_0_2) (sitofp .f32 (constantI S_ 32 0#32)) pads_S4x4096x96_S4x4096x128_000_000_0320 h_S_

/-- The gradient of the keys. -/
def gradK (q : FVec Idealize.ShloMosaic.Ideal S4096x4x96 .f32) (k : FVec Idealize.ShloMosaic.Ideal S4096x4x96 .f32) (v : FVec Idealize.ShloMosaic.Ideal S4096x4x64 .f32) (ct : FVec Idealize.ShloMosaic.Ideal S4096x4x64 .f32) : FVec Idealize.ShloMosaic.Ideal S4x4096x128 .f32 :=
  pad S4x4096x128 ![0, 0, 0] ![0, 0, 32] ![0, 0, 0] (transpose S4x4096x96 [1, 0, 2] (transpose S4096x4x96 [1, 0, 2] (Host.dotGeneral dot_S4x4096x4096_S4096x4x96_S4x4096x96_1_0_2_2_0_1 none (gradScore q k v ct) q) transposes_S4x4096x96_S4096x4x96_1_0_2) transposes_S4096x4x96_S4x4096x96_1_0_2) (sitofp .f32 (constantI S_ 32 0#32)) pads_S4x4096x96_S4x4096x128_000_000_0320 h_S_

/-- The gradient of the values. -/
def gradV (q : FVec Idealize.ShloMosaic.Ideal S4096x4x96 .f32) (k : FVec Idealize.ShloMosaic.Ideal S4096x4x96 .f32) (ct : FVec Idealize.ShloMosaic.Ideal S4096x4x64 .f32) : FVec Idealize.ShloMosaic.Ideal S4x4096x64 .f32 :=
  transpose S4x4096x64 [1, 0, 2] (transpose S4096x4x64 [2, 0, 1] (Host.dotGeneral dot_S4x64x4096_S4x4096x4096_S4x64x4096_2_1_1_2_0_0 none (transpose S4x64x4096 [1, 2, 0] ct transposes_S4096x4x64_S4x64x4096_1_2_0) (Host.divf (expo q k) (broadcastInDim S4x4096x4096 ![0, 1, 2] bcast_S4x4096x1_S4x4096x4096_0_1_2 (broadcastInDim S4x4096x1 ![0, 1] bcast_S4x4096_S4x4096x1_0_1 (rowSum q k))))) transposes_S4x64x4096_S4096x4x64_2_0_1) transposes_S4096x4x64_S4x4096x64_1_0_2

end Cert.ReferenceIdeal.Arrays

end
-- ==== Proof.RefAt.lean ====
/- The reference's named arrays at an index. -/
module

public import proofs.«01_k».proof.Proof.Gen.ReferenceIdeal.Run
public import proofs.«01_k».proof.Proof.Softmax
public import Idealize.ShloMosaic.Lib.StableHlo.ReadAt
public import Idealize.ShloMosaic.Lib.Pointwise
public import proofs.«01_k».proof.Proof.RefArrays

@[expose] public section

set_option maxRecDepth 16384

noncomputable section

namespace Cert.ReferenceIdeal.Arrays

open Idealize.ShloMosaic Idealize.ShloMosaic.TcCoe Idealize.ShloMosaic.Tactic
open Cert.ReferenceIdeal Cert.ReferenceIdeal.Gen
open Cert.Softmax (byHead)

variable (q k : FVec Idealize.ShloMosaic.Ideal S4096x4x96 .f32) (v ct : FVec Idealize.ShloMosaic.Ideal S4096x4x64 .f32) (h : Fin 4) (i j : Fin 4096)

theorem scores_at : scores q k (ix3 h i j) = Softmax.score (byHead q) (byHead k) h i j := by
  unfold scores
  clean_types
  pointwise
  exact Softmax.select_le i j _ _

theorem rowMax_at : rowMax q k (ix2 h i) = Softmax.top (byHead q) (byHead k) h i := by
  unfold rowMax
  clean_types
  pointwise
  exact Finset.fold_congr fun j _ => scores_at q k h i j

theorem clamp_at (x : FVec Idealize.ShloMosaic.Ideal S4x4096 .f32) (y : FVec Idealize.ShloMosaic.Ideal S4x4096 .f32) (i : S4x4096.Idx) (hy : y i = (⊥ : EReal)) : maximumf y x i = x i := by
  refine Eq.trans (b := max (y i : EReal) (x i)) rfl ?_
  rw [hy]
  exact bot_sup_eq _

theorem fill_at (i : S4x4096.Idx) : broadcastInDim S4x4096 ![] bcast_S_S4x4096 (constant (F := Idealize.ShloMosaic.Ideal) S_ .f32 0xFF800000#32) i = (⊥ : EReal) := by
  exact Softmax.ofBits_bot

theorem rowTop_at : rowTop q k (ix2 h i) = Softmax.top (byHead q) (byHead k) h i := by
  unfold rowTop
  rw [clamp_at _ _ _ (fill_at _)]
  exact rowMax_at q k h i

theorem sitofp_zero : (FloatOps.sitofp .f32 (0#32 : BitVec 32) : Idealize.ShloMosaic.Ideal .f32) = (0 : EReal) := by
  show (((0#32 : BitVec 32).toInt : ℝ) : EReal) = 0
  simp

theorem expo_at : expo q k (ix3 h i j) = Softmax.expo (byHead q) (byHead k) h i j := by
  unfold expo
  clean_types
  pointwise
  rw [scores_at, rowTop_at]
  rfl

theorem rowSum_at : rowSum q k (ix2 h i) = Softmax.total (byHead q) (byHead k) h i := by
  unfold rowSum
  clean_types
  pointwise
  simp only [expo_at]
  rfl

theorem gradProb_at : gradProb v ct (ix3 h i j) = Softmax.gradProb (byHead v) (byHead ct) h i j := by
  unfold gradProb
  clean_types
  pointwise
  rfl

theorem weighted_at : weighted q k v ct (ix2 h i) = Softmax.weighted (byHead q) (byHead k) (byHead v) (byHead ct) h i := by
  unfold weighted
  clean_types
  pointwise
  simp only [gradProb_at, rowSum_at, expo_at]
  rfl

theorem shift_at : shift q k v ct (ix2 h i) = -Softmax.weighted (byHead q) (byHead k) (byHead v) (byHead ct) h i := by
  unfold shift
  clean_types
  pointwise
  simp [weighted_at]

theorem gradScore_at : gradScore q k v ct (ix3 h i j) = Softmax.gradScore (byHead q) (byHead k) (byHead v) (byHead ct) h i j := by
  unfold gradScore
  clean_types
  pointwise
  rw [gradProb_at, rowSum_at, shift_at, expo_at]
  refine (Softmax.select_le i j _ _).trans ?_
  unfold Softmax.gradScore
  by_cases hij : j.val ≤ i.val
  · rw [if_pos hij, if_pos hij]; rfl
  · rw [if_neg hij, if_neg hij]; exact (zero_mul _).symm

theorem gradQ_at (d : Fin 128) : gradQ q k v ct (ix3 h i d)
    = if hd : d.val < 96 then ∑ j, Softmax.gradScore (byHead q) (byHead k) (byHead v) (byHead ct) h i j * k (ix3 j h ⟨d.val, hd⟩) else 0 := by
  unfold gradQ
  clean_types
  pointwise
  simp only [gradScore_at, sitofp_zero]

theorem gradK_at (d : Fin 128) : gradK q k v ct (ix3 h j d)
    = if hd : d.val < 96 then ∑ i, Softmax.gradScore (byHead q) (byHead k) (byHead v) (byHead ct) h i j * q (ix3 i h ⟨d.val, hd⟩) else 0 := by
  unfold gradK
  clean_types
  pointwise
  simp only [gradScore_at, sitofp_zero]

theorem gradV_at (d : Fin 64) : gradV q k ct (ix3 h j d)
    = ∑ i, ct (ix3 i h d) * Ideal.div (Softmax.expo (byHead q) (byHead k) h i j) (Softmax.total (byHead q) (byHead k) h i) := by
  unfold gradV
  clean_types
  pointwise
  simp only [expo_at, rowSum_at]

end Cert.ReferenceIdeal.Arrays

end
-- ==== Proof.Operands.lean ====
/- The operands that the host prepares for the launch, in terms of the program's four arguments. -/
module

public import proofs.«01_k».proof.Proof.Places
public import proofs.«01_k».proof.Proof.RefAt
public import Idealize.ShloMosaic.Lib.StableHlo.ReadAt
public import Idealize.ShloMosaic.Lib.Claim

@[expose] public section

set_option maxRecDepth 16384

noncomputable section

namespace Cert.KernelIdeal.Body

open Idealize.ShloMosaic Idealize.ShloMosaic.TcCoe Idealize.ShloMosaic.Tactic
open Cert.KernelIdeal Cert.KernelIdeal.Gen
open Cert.Softmax (byHead)

variable (m : (ℓ : Loc nD τ sig) → Buf (Elt Ideal) ℓ)

/-- The four arguments by head, row and lane. -/
def Aq (c : Dev nD) : Fin 4 → Fin 4096 → Fin 96 → EReal := byHead (m ((c.tc : Thread nD τ).loc main_arg0))
def Ak (c : Dev nD) : Fin 4 → Fin 4096 → Fin 96 → EReal := byHead (m ((c.tc : Thread nD τ).loc main_arg1))
def Av (c : Dev nD) : Fin 4 → Fin 4096 → Fin 64 → EReal := byHead (m ((c.tc : Thread nD τ).loc main_arg2))
def Ac (c : Dev nD) : Fin 4 → Fin 4096 → Fin 64 → EReal := byHead (m ((c.tc : Thread nD τ).loc main_arg3))

/-- Ninety-six lanes, padded by zeros to 128. -/
def padded (X : Fin 4 → Fin 4096 → Fin 96 → EReal) (h : Fin 4) (q : Fin 4096) (d : Fin 128) : EReal :=
  if hd : d.val < 96 then X h q ⟨d.val, hd⟩ else 0

theorem sitofp_zero : (FloatOps.sitofp .f32 (0#32 : BitVec 32) : Idealize.ShloMosaic.Ideal .f32) = (0 : EReal) := by
  show (((0#32 : BitVec 32).toInt : ℝ) : EReal) = 0
  simp

theorem Qa_eq (c : Dev nD) : Qa m c = padded (Aq m c) := by
  funext h q d
  unfold Qa padded V
  after_reads_at
  rw [sitofp_zero]
  rfl

theorem Ka_eq (c : Dev nD) : Ka m c = padded (Ak m c) := by
  funext h q d
  unfold Ka padded V
  after_reads_at
  rw [sitofp_zero]
  rfl

theorem Va_eq (c : Dev nD) : Va m c = Av m c := by
  funext h q d
  unfold Va V
  after_reads_at
  rfl

theorem Da_eq (c : Dev nD) : Da m c = Ac m c := by
  funext h q d
  unfold Da V
  after_reads_at
  rfl

section
variable (q k : FVec Idealize.ShloMosaic.Ideal S4096x4x96 .f32) (v : FVec Idealize.ShloMosaic.Ideal S4096x4x64 .f32)

/-- The exponentials of the saved log-sum, their sum per query, and the log-sum. -/
def lseExpo : FVec Idealize.ShloMosaic.Ideal S4x4096x4096 .f32 :=
  Host.exp (subf (ReferenceIdeal.Arrays.scores q k) (broadcastInDim S4x4096x4096 ![0, 1, 2] bcast_S4x4096x1_S4x4096x4096_0_1_2
    (broadcastInDim S4x4096x1 ![0, 1] bcast_S4x4096_S4x4096x1_0_1 (ReferenceIdeal.Arrays.rowMax q k))))

def lseTotal : FVec Idealize.ShloMosaic.Ideal S4x4096 .f32 :=
  Host.reduceAdd (lseExpo q k) (constant S_ .f32 0#32) reducesTo_S4x4096x4096_S4x4096_d2 h_S_

def lse : FVec Idealize.ShloMosaic.Ideal S4x4096x1 .f32 :=
  addf (broadcastInDim S4x4096x1 ![0, 1] bcast_S4x4096_S4x4096x1_0_1 (ReferenceIdeal.Arrays.rowMax q k))
    (Host.log (broadcastInDim S4x4096x1 ![0, 1] bcast_S4x4096_S4x4096x1_0_1 (lseTotal q k)))

end

theorem read_lse (c : Dev nD) : V m c main_v41 = lse (m ((c.tc : Thread nD τ).loc main_arg0)) (m ((c.tc : Thread nD τ).loc main_arg1)) := by
  unfold V
  after_reads_simp
  all_goals try simp -implicitDefEqProofs only [StableHlo.TRef.toBuf, StableHlo.TRef.ofBuf, cast_cast, cast_eq]
  rfl

theorem lseExpo_at (q k : FVec Idealize.ShloMosaic.Ideal S4096x4x96 .f32) (h : Fin 4) (i j : Fin 4096) : lseExpo q k (ix3 h i j) = Softmax.expo (byHead q) (byHead k) h i j := by
  have key : ∀ (s : FVec Idealize.ShloMosaic.Ideal S4x4096x4096 .f32) (x : FVec Idealize.ShloMosaic.Ideal S4x4096 .f32),
      Host.exp (subf s (broadcastInDim S4x4096x4096 ![0, 1, 2] bcast_S4x4096x1_S4x4096x4096_0_1_2
        (broadcastInDim S4x4096x1 ![0, 1] bcast_S4x4096_S4x4096x1_0_1 x))) (ix3 h i j) = Ideal.exp (s (ix3 h i j) - x (ix2 h i)) := by
    intro s x
    clean_types
    pointwise
  refine (key _ _).trans ?_
  rw [ReferenceIdeal.Arrays.scores_at, ReferenceIdeal.Arrays.rowMax_at]
  rfl

theorem lseTotal_at (q k : FVec Idealize.ShloMosaic.Ideal S4096x4x96 .f32) (h : Fin 4) (i : Fin 4096) : lseTotal q k (ix2 h i) = Softmax.total (byHead q) (byHead k) h i := by
  unfold lseTotal
  clean_types
  pointwise
  simp only [lseExpo_at]
  rfl

theorem lse_at (q k : FVec Idealize.ShloMosaic.Ideal S4096x4x96 .f32) (h : Fin 4) (i : Fin 4096) : lse q k (ix3 h i 0) = Softmax.logSum (byHead q) (byHead k) h i := by
  have key : ∀ x y : FVec Idealize.ShloMosaic.Ideal S4x4096 .f32,
      addf (broadcastInDim S4x4096x1 ![0, 1] bcast_S4x4096_S4x4096x1_0_1 x)
        (Host.log (broadcastInDim S4x4096x1 ![0, 1] bcast_S4x4096_S4x4096x1_0_1 y)) (ix3 h i 0) = x (ix2 h i) + Ideal.log (y (ix2 h i)) := by
    intro x y
    clean_types
    pointwise
  refine (key _ _).trans ?_
  rw [ReferenceIdeal.Arrays.rowMax_at, lseTotal_at]
  rfl

/-- The attention's output. -/
def attn (q k : FVec Idealize.ShloMosaic.Ideal S4096x4x96 .f32) (v : FVec Idealize.ShloMosaic.Ideal S4096x4x64 .f32) : FVec Idealize.ShloMosaic.Ideal S4x4096x64 .f32 :=
  transpose S4x4096x64 [1, 0, 2] (transpose S4096x4x64 [2, 0, 1]
    (Host.dotGeneral dot_S4096x4x64_S4x4096x4096_S4x64x4096_0_2_2_1_1_0 none v
      (Host.divf (ReferenceIdeal.Arrays.expo q k) (broadcastInDim S4x4096x4096 ![0, 1, 2] bcast_S4x4096x1_S4x4096x4096_0_1_2
        (broadcastInDim S4x4096x1 ![0, 1] bcast_S4x4096_S4x4096x1_0_1 (ReferenceIdeal.Arrays.rowSum q k)))))
    transposes_S4x64x4096_S4096x4x64_2_0_1) transposes_S4096x4x64_S4x4096x64_1_0_2

/-- The same, padded by nothing. -/
def attnPad (q k : FVec Idealize.ShloMosaic.Ideal S4096x4x96 .f32) (v : FVec Idealize.ShloMosaic.Ideal S4096x4x64 .f32) : FVec Idealize.ShloMosaic.Ideal S4x4096x64 .f32 :=
  pad S4x4096x64 ![0, 0, 0] ![0, 0, 0] ![0, 0, 0] (attn q k v) (sitofp .f32 (constantI S_ 32 0#32)) pads_S4x4096x64_S4x4096x64_000_000_000 h_S_

theorem read_out (c : Dev nD) : V m c main_v52 = attnPad (m ((c.tc : Thread nD τ).loc main_arg0)) (m ((c.tc : Thread nD τ).loc main_arg1)) (m ((c.tc : Thread nD τ).loc main_arg2)) := by
  unfold V
  after_reads_simp
  all_goals try simp -implicitDefEqProofs only [StableHlo.TRef.toBuf, StableHlo.TRef.ofBuf, cast_cast, cast_eq]
  rfl

theorem attn_at (q k : FVec Idealize.ShloMosaic.Ideal S4096x4x96 .f32) (v : FVec Idealize.ShloMosaic.Ideal S4096x4x64 .f32) (h : Fin 4) (i : Fin 4096) (d : Fin 64) :
    attn q k v (ix3 h i d) = Softmax.out (byHead q) (byHead k) (byHead v) h i d := by
  unfold attn
  clean_types
  pointwise
  simp only [ReferenceIdeal.Arrays.expo_at, ReferenceIdeal.Arrays.rowSum_at]
  rfl

theorem attnPad_at (q k : FVec Idealize.ShloMosaic.Ideal S4096x4x96 .f32) (v : FVec Idealize.ShloMosaic.Ideal S4096x4x64 .f32) (h : Fin 4) (i : Fin 4096) (d : Fin 64) :
    attnPad q k v (ix3 h i d) = Softmax.out (byHead q) (byHead k) (byHead v) h i d := by
  unfold attnPad
  clean_types
  pointwise
  exact attn_at q k v h i d

theorem La_eq (c : Dev nD) : La m c = Softmax.logSum (Aq m c) (Ak m c) := by
  funext h q
  exact (congrFun (read_lse m c) (ix3 h q 0)).trans (lse_at _ _ h q)

theorem Oa_eq (c : Dev nD) : Oa m c = Softmax.out (Aq m c) (Ak m c) (Av m c) := by
  funext h q d
  exact (congrFun (read_out m c) (ix3 h q d)).trans (attnPad_at _ _ _ h q d)

end Cert.KernelIdeal.Body

end
-- ==== Proof.Equation.lean ====
/- The two forms of the attention's gradients agree wherever the four arguments are real numbers. -/
module

public import proofs.«01_k».proof.Proof.Softmax

@[expose] public section

noncomputable section

namespace Cert.Equation

open Idealize.ShloMosaic
open Cert.Flash (cE)
open Cert.Softmax

/-- Ninety-six lanes, padded by zeros to 128. -/
def padded (X : Fin 4 → Fin 4096 → Fin 96 → EReal) (h : Fin 4) (q : Fin 4096) (d : Fin 128) : EReal :=
  if hd : d.val < 96 then X h q ⟨d.val, hd⟩ else 0

/-- A real array as an array of extended reals. -/
def up {n : ℕ} (x : Fin 4 → Fin 4096 → Fin n → ℝ) (h : Fin 4) (i : Fin 4096) (d : Fin n) : EReal := ((x h i d : ℝ) : EReal)

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem cE_real : ∃ r : ℝ, cE = (r : EReal) := by
  refine ⟨cE.toReal, (EReal.coe_toReal ?_ ?_).symm⟩
  · simp only [cE, Ideal.ofBits, Ideal.ieee]
    simp
    rw [← EReal.coe_mul]; exact EReal.coe_ne_top _
  · simp only [cE, Ideal.ofBits, Ideal.ieee]
    simp
    rw [← EReal.coe_mul]; exact EReal.coe_ne_bot _

/-- A sum over 128 lanes, the last 32 of them zero. -/
theorem sum_lanes (f : (d : Fin 128) → d.val < 96 → EReal) :
    (∑ d : Fin 128, if hd : d.val < 96 then f d hd else 0) = ∑ d : Fin 96, f ⟨d.val, by omega⟩ d.isLt := by
  have e := Fin.sum_univ_add (a := 96) (b := 32) (fun d : Fin (96 + 32) => if hd : d.val < 96 then f d hd else 0)
  refine e.trans ?_
  have z : (∑ i : Fin 32, if hd : (Fin.natAdd 96 i).val < 96 then f (Fin.natAdd 96 i) hd else 0) = 0 :=
    Finset.sum_eq_zero fun i _ => dif_neg (by simp)
  rw [z, add_zero]
  exact Finset.sum_congr rfl fun i _ => dif_pos i.isLt

theorem padded_dot (Q K : Fin 4 → Fin 4096 → Fin 96 → EReal) (h : Fin 4) (i j : Fin 4096) :
    (∑ d, padded Q h i d * padded K h j d) = ∑ d, Q h i d * K h j d := by
  refine Eq.trans ?_ (sum_lanes fun d hd => Q h i ⟨d.val, hd⟩ * K h j ⟨d.val, hd⟩)
  refine Finset.sum_congr rfl fun d _ => ?_
  unfold padded
  by_cases hd : d.val < 96
  · rw [dif_pos hd, dif_pos hd, dif_pos hd]
  · rw [dif_neg hd, dif_neg hd, dif_neg hd, mul_zero]

variable (q k : Fin 4 → Fin 4096 → Fin 96 → ℝ) (v c : Fin 4 → Fin 4096 → Fin 64 → ℝ)

theorem dot_real (r : ℝ) (hr : cE = (r : EReal)) (h : Fin 4) (i j : Fin 4096) :
    (∑ d, up q h i d * up k h j d) * cE = (((∑ d, q h i d * k h j d) * r : ℝ) : EReal) := by
  unfold up
  rw [hr, EReal.coe_mul, ← coe_sum]
  simp only [EReal.coe_mul]

theorem top_real (h : Fin 4) (i : Fin 4096) : ∃ M : ℝ, top (up q) (up k) h i = (M : EReal) := by
  obtain ⟨r, hr⟩ := cE_real
  have lo : (((∑ d, q h i d * k h i d) * r : ℝ) : EReal) ≤ top (up q) (up k) h i := by
    refine Finset.le_fold_max _ |>.mpr (Or.inr ⟨i, Finset.mem_univ _, ?_⟩)
    unfold score
    rw [if_pos (le_refl _), dot_real q k r hr]
  have hi : top (up q) (up k) h i < ⊤ := by
    refine (Finset.fold_max_lt _).mpr ⟨?_, fun j _ => ?_⟩
    · rw [ofBits_bot]; exact bot_lt_top
    · unfold score
      split_ifs
      · rw [dot_real q k r hr]; exact EReal.coe_lt_top _
      · rw [ofBits_bot]; exact bot_lt_top
  exact ⟨(top (up q) (up k) h i).toReal,
    (EReal.coe_toReal (ne_of_lt hi) (ne_of_gt (lt_of_lt_of_le (EReal.bot_lt_coe _) lo))).symm⟩

/-- The weights of a query's keys: the exponentials, their sum, and the probabilities from the saved log-sum. -/
theorem weights (h : Fin 4) (i : Fin 4096) : ∃ e : Fin 4096 → ℝ, 0 < ∑ j, e j ∧ (∀ j, expo (up q) (up k) h i j = (e j : EReal))
    ∧ total (up q) (up k) h i = ((∑ j, e j : ℝ) : EReal) ∧ (∀ j, ¬ j.val ≤ i.val → e j = 0)
    ∧ ∀ j, Flash.prob (padded (up q)) (padded (up k)) (logSum (up q) (up k)) h i j = ((e j * (1 / ∑ j, e j) : ℝ) : EReal) := by
  obtain ⟨r, hr⟩ := cE_real
  obtain ⟨M, hM⟩ := top_real q k h i
  let e : Fin 4096 → ℝ := fun j => if j.val ≤ i.val then Real.exp ((∑ d, q h i d * k h j d) * r - M) else 0
  have e1 : ∀ j, j.val ≤ i.val → e j = Real.exp ((∑ d, q h i d * k h j d) * r - M) := fun j hj => if_pos hj
  have e0 : ∀ j, ¬ j.val ≤ i.val → e j = 0 := fun j hj => if_neg hj
  have epos : ∀ j, 0 ≤ e j := fun j => by
    by_cases hj : j.val ≤ i.val
    · rw [e1 j hj]; exact (Real.exp_pos _).le
    · exact le_of_eq (e0 j hj).symm
  have hl : 0 < ∑ j, e j := by
    refine Finset.sum_pos' (fun j _ => epos j) ⟨i, Finset.mem_univ _, ?_⟩
    rw [e1 i (le_refl _)]; exact Real.exp_pos _
  have hexpo : ∀ j, expo (up q) (up k) h i j = (e j : EReal) := fun j => by
    unfold expo score
    rw [hM, ofBits_bot]
    by_cases hj : j.val ≤ i.val
    · rw [if_pos hj, dot_real q k r hr, ← EReal.coe_sub, Ideal.exp_coe, e1 j hj]
    · rw [if_neg hj, EReal.bot_sub, Ideal.exp_bot, e0 j hj]; rfl
  have htotal : total (up q) (up k) h i = ((∑ j, e j : ℝ) : EReal) := by
    unfold total
    rw [← coe_sum]
    exact Finset.sum_congr rfl fun j _ => hexpo j
  refine ⟨e, hl, hexpo, htotal, e0, fun j => ?_⟩
  unfold Flash.prob
  by_cases hj : j.val ≤ i.val
  · rw [if_pos hj, padded_dot, dot_real q k r hr, e1 j hj]
    unfold logSum
    rw [hM, htotal, Ideal.log_coe, if_neg (not_le.mpr hl), ← EReal.coe_add, ← EReal.coe_sub, Ideal.exp_coe, sub_add_eq_sub_sub, Real.exp_sub _ (Real.log _),
      Real.exp_log hl, div_eq_mul_one_div]
  · rw [if_neg hj, e0 j hj, zero_mul]; rfl

theorem gradProb_real (h : Fin 4) (i j : Fin 4096) : gradProb (up v) (up c) h i j = ((∑ d, c h i d * v h j d : ℝ) : EReal) := by
  unfold gradProb up
  rw [← coe_sum]
  simp only [EReal.coe_mul]

theorem score_sum (n : ℕ) (x : Fin n → ℝ) (y : Fin n → Fin 4096 → ℝ) (e : Fin 4096 → ℝ) (l : ℝ) :
    (∑ d, x d * ∑ j, y d j * (e j * (1 / l))) = (∑ j, (∑ d, x d * y d j) * e j) * (1 / l) := by
  simp only [Finset.mul_sum, Finset.sum_mul]
  rw [Finset.sum_comm]
  exact Finset.sum_congr rfl fun j _ => Finset.sum_congr rfl fun d _ => by ring

/-- The gradient of a score, from the attention's output and from the weights. -/
theorem dscore_eq (h : Fin 4) (i j : Fin 4096) :
    Flash.dscore (padded (up q)) (padded (up k)) (up v) (out (up q) (up k) (up v)) (up c) (logSum (up q) (up k)) h i j
      = gradScore (up q) (up k) (up v) (up c) h i j := by
  obtain ⟨r, hr⟩ := cE_real
  obtain ⟨e, hl, he, ht, hz, hp⟩ := weights q k h i
  generalize (∑ j, e j) = l at hl ht hp
  have hne : l ≠ 0 := ne_of_gt hl
  have hw : weighted (up q) (up k) (up v) (up c) h i = ((∑ j, (∑ d, c h i d * v h j d) * (1 / (l * l)) * e j : ℝ) : EReal) := by
    unfold weighted
    rw [← coe_sum]
    refine Finset.sum_congr rfl fun j _ => ?_
    rw [gradProb_real, ht, ← EReal.coe_mul, Ideal.div_coe (mul_ne_zero hne hne), one_mul, he, ← EReal.coe_mul, ← EReal.coe_mul]
  have ho : ∀ d, out (up q) (up k) (up v) h i d = ((∑ j, v h j d * (e j * (1 / l)) : ℝ) : EReal) := fun d => by
    unfold out
    rw [← coe_sum]
    refine Finset.sum_congr rfl fun j _ => ?_
    rw [he, ht, Ideal.div_coe hne, ← EReal.coe_mul]
    exact (EReal.coe_mul _ _).symm
  have hd : (∑ d, up c h i d * out (up q) (up k) (up v) h i d) = ((∑ d, c h i d * ∑ j, v h j d * (e j * (1 / l)) : ℝ) : EReal) := by
    rw [← coe_sum]
    exact Finset.sum_congr rfl fun d _ => by rw [ho]; exact (EReal.coe_mul _ _).symm
  have hg : (∑ d, up c h i d * up v h j d) = ((∑ d, c h i d * v h j d : ℝ) : EReal) := gradProb_real v c h i j
  have left : Flash.dscore (padded (up q)) (padded (up k)) (up v) (out (up q) (up k) (up v)) (up c) (logSum (up q) (up k)) h i j
      = ((e j * (1 / l) * ((∑ d, c h i d * v h j d) - (∑ j, (∑ d, c h i d * v h j d) * e j) * (1 / l)) * r : ℝ) : EReal) := by
    unfold Flash.dscore
    rw [hp, hg, hd, hr, score_sum, ← EReal.coe_sub, ← EReal.coe_mul, ← EReal.coe_mul]
  have right : gradScore (up q) (up k) (up v) (up c) h i j
      = ((((∑ d, c h i d * v h j d) * (1 / l) + -(∑ j, (∑ d, c h i d * v h j d) * (1 / (l * l)) * e j)) * e j * r : ℝ) : EReal) := by
    unfold gradScore
    rw [gradProb_real, hw, ht, he, hr, Ideal.div_coe hne]
    by_cases hj : j.val ≤ i.val
    · rw [if_pos hj, ← EReal.coe_mul, ← EReal.coe_neg, ← EReal.coe_add, ← EReal.coe_mul, ← EReal.coe_mul]
    · rw [if_neg hj, hz j hj, mul_zero, zero_mul, zero_mul]; rfl
  rw [left, right]
  congr 1
  have hs : (∑ j, (∑ d, c h i d * v h j d) * (1 / (l * l)) * e j) = (∑ j, (∑ d, c h i d * v h j d) * e j) * (1 / l) * (1 / l) := by
    simp only [Finset.sum_mul]
    refine Finset.sum_congr rfl fun j _ => ?_
    have : (1 / (l * l)) = 1 / l * (1 / l) := by field_simp
    rw [this]; simp only [← Finset.sum_mul]; ring
  rw [hs]
  ring

theorem gradQ_eq (h : Fin 4) (i : Fin 4096) (d : Fin 128) :
    Flash.gradQ (padded (up q)) (padded (up k)) (up v) (out (up q) (up k) (up v)) (up c) (logSum (up q) (up k)) h i d
      = if hd : d.val < 96 then ∑ j, gradScore (up q) (up k) (up v) (up c) h i j * up k h j ⟨d.val, hd⟩ else 0 := by
  unfold Flash.gradQ
  simp only [dscore_eq]
  unfold padded
  by_cases hd : d.val < 96
  · simp only [dif_pos hd]
  · simp only [dif_neg hd, mul_zero, Finset.sum_const_zero]

theorem gradK_eq (h : Fin 4) (j : Fin 4096) (d : Fin 128) :
    Flash.gradK (padded (up q)) (padded (up k)) (up v) (out (up q) (up k) (up v)) (up c) (logSum (up q) (up k)) h j d
      = if hd : d.val < 96 then ∑ i, gradScore (up q) (up k) (up v) (up c) h i j * up q h i ⟨d.val, hd⟩ else 0 := by
  unfold Flash.gradK
  simp only [dscore_eq]
  unfold padded
  by_cases hd : d.val < 96
  · simp only [dif_pos hd]
  · simp only [dif_neg hd, mul_zero, Finset.sum_const_zero]

theorem gradV_eq (h : Fin 4) (j : Fin 4096) (d : Fin 64) :
    Flash.gradV (padded (up q)) (padded (up k)) (up c) (logSum (up q) (up k)) h j d
      = ∑ i, up c h i d * Ideal.div (expo (up q) (up k) h i j) (total (up q) (up k) h i) := by
  unfold Flash.gradV
  refine Finset.sum_congr rfl fun i _ => ?_
  obtain ⟨e, hl, he, ht, hz, hp⟩ := weights q k h i
  rw [hp, he, ht, Ideal.div_coe (ne_of_gt hl), ← EReal.coe_mul]
  exact mul_comm _ _

end Cert.Equation

end
-- ==== Proof.Result.lean ====
/- The idealised kernel's three results, as the sums that the reference computes. -/
module

public import proofs.«01_k».proof.Proof.Frame
public import proofs.«01_k».proof.Proof.Arrays
public import proofs.«01_k».proof.Proof.Operands
public import proofs.«01_k».proof.Proof.Equation
public import proofs.«01_k».proof.Proof.RefAt

@[expose] public section

set_option maxRecDepth 16384

noncomputable section

namespace Cert.KernelIdeal.Body

open Idealize.ShloMosaic Idealize.ShloMosaic.TcCoe Idealize.SL.Sem
open Cert.KernelIdeal Cert.KernelIdeal.Gen
open Cert.Softmax (byHead)

section
variable (x0 x1 : FVec Idealize.ShloMosaic.Ideal S4096x4x96 .f32) (x2 x3 : FVec Idealize.ShloMosaic.Ideal S4096x4x64 .f32)
  (q k : Fin 4 → Fin 4096 → Fin 96 → ℝ) (v d : Fin 4 → Fin 4096 → Fin 64 → ℝ)
  (hq : byHead x0 = Equation.up q) (hk : byHead x1 = Equation.up k) (hv : byHead x2 = Equation.up v) (hd : byHead x3 = Equation.up d)
  (Q K : Fin 4 → Fin 4096 → Fin 128 → EReal) (V' O D : Fin 4 → Fin 4096 → Fin 64 → EReal) (L : Fin 4 → Fin 4096 → EReal)
  (hQ : Q = Equation.padded (byHead x0)) (hK : K = Equation.padded (byHead x1)) (hV : V' = byHead x2)
  (hO : O = Softmax.out (byHead x0) (byHead x1) (byHead x2)) (hD : D = byHead x3) (hL : L = Softmax.logSum (byHead x0) (byHead x1))
include hq hk hd hQ hK hD hL

include hv hV hO in
theorem gradQ_eq (a : Fin 4) (b : Fin 4096) (e : Fin 128) :
    Flash.gradQ Q K V' O D L a b e = ReferenceIdeal.Arrays.gradQ x0 x1 x2 x3 (ix3 a b e) := by
  rw [hQ, hK, hV, hO, hD, hL, hq, hk, hv, hd]
  refine Eq.trans (Equation.gradQ_eq q k v d a b e) (Eq.trans ?_ (ReferenceIdeal.Arrays.gradQ_at _ _ _ _ a b e).symm)
  rw [← hq, ← hk, ← hv, ← hd]
  rfl

include hv hV hO in
theorem gradK_eq (a : Fin 4) (b : Fin 4096) (e : Fin 128) :
    Flash.gradK Q K V' O D L a b e = ReferenceIdeal.Arrays.gradK x0 x1 x2 x3 (ix3 a b e) := by
  rw [hQ, hK, hV, hO, hD, hL, hq, hk, hv, hd]
  refine Eq.trans (Equation.gradK_eq q k v d a b e) (Eq.trans ?_ (ReferenceIdeal.Arrays.gradK_at _ _ _ _ a b e).symm)
  rw [← hq, ← hk, ← hv, ← hd]
  rfl

theorem gradV_eq (a : Fin 4) (b : Fin 4096) (e : Fin 64) :
    Flash.gradV Q K D L a b e = ReferenceIdeal.Arrays.gradV x0 x1 x3 (ix3 a b e) := by
  rw [hQ, hK, hD, hL, hq, hk, hd]
  refine Eq.trans (Equation.gradV_eq q k d a b e) (Eq.trans ?_ (ReferenceIdeal.Arrays.gradV_at _ _ _ a b e).symm)
  rw [← hq, ← hk, ← hd]
  rfl

end

variable (m : (ℓ : Loc nD τ sig) → Buf (Elt Ideal) ℓ) (ρ : Dev nD → PrngReg)

/-- Where the four arguments are real, the launch's arrays are the reference's. -/
theorem results_eq (c : Dev nD) (q k : Fin 4 → Fin 4096 → Fin 96 → ℝ) (v d : Fin 4 → Fin 4096 → Fin 64 → ℝ)
    (hq : Aq m c = Equation.up q) (hk : Ak m c = Equation.up k) (hv : Av m c = Equation.up v) (hd : Ac m c = Equation.up d) :
    (dats m 0 c).arrAt 6 cfg0.N = ReferenceIdeal.Arrays.gradQ (m ((c.tc : Thread nD τ).loc main_arg0)) (m ((c.tc : Thread nD τ).loc main_arg1)) (m ((c.tc : Thread nD τ).loc main_arg2)) (m ((c.tc : Thread nD τ).loc main_arg3))
    ∧ (dats m 0 c).arrAt 7 cfg0.N = ReferenceIdeal.Arrays.gradK (m ((c.tc : Thread nD τ).loc main_arg0)) (m ((c.tc : Thread nD τ).loc main_arg1)) (m ((c.tc : Thread nD τ).loc main_arg2)) (m ((c.tc : Thread nD τ).loc main_arg3))
    ∧ (dats m 0 c).arrAt 8 cfg0.N = ReferenceIdeal.Arrays.gradV (m ((c.tc : Thread nD τ).loc main_arg0)) (m ((c.tc : Thread nD τ).loc main_arg1)) (m ((c.tc : Thread nD τ).loc main_arg3)) :=
  ⟨(final_q m c).trans (funext fun i => (gradQ_eq _ _ _ _ q k v d hq hk hv hd _ _ _ _ _ _ (Qa_eq m c) (Ka_eq m c) (Va_eq m c) (Oa_eq m c) (Da_eq m c) (La_eq m c) (i 0) (i 1) (i 2)).trans
      (congrArg _ (ix3_eta i))),
   (final_k m c).trans (funext fun i => (gradK_eq _ _ _ _ q k v d hq hk hv hd _ _ _ _ _ _ (Qa_eq m c) (Ka_eq m c) (Va_eq m c) (Oa_eq m c) (Da_eq m c) (La_eq m c) (i 0) (i 1) (i 2)).trans
      (congrArg _ (ix3_eta i))),
   (final_v m c).trans (funext fun i => (gradV_eq _ _ _ q k d hq hk hd _ _ _ _ (Qa_eq m c) (Ka_eq m c) (Da_eq m c) (La_eq m c) (i 0) (i 1) (i 2)).trans
      (congrArg _ (ix3_eta i)))⟩

theorem run_results : θ_run defs (onTc (τ := τ) (main (F := Ideal))) ⟨m, fun _ => 0, ρ⟩ (fun r => ∀ c : Dev nD,
      r.2.mem ((c.tc : Thread nD τ).loc main_v55_0) = (dats m 0 c).arrAt 6 cfg0.N
      ∧ r.2.mem ((c.tc : Thread nD τ).loc main_v55_1) = (dats m 0 c).arrAt 7 cfg0.N
      ∧ r.2.mem ((c.tc : Thread nD τ).loc main_v55_2) = (dats m 0 c).arrAt 8 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).1 6, (h.1 c).1 7, (h.1 c).1 8, h.2.1 c⟩) (θ_run_and (run_main m ρ) (frame m ρ))

/-- The run's results as the reference's arrays, where the arguments are real. -/
theorem run_grads (h : ∀ c, (∃ q, Aq m c = Equation.up q) ∧ (∃ k, Ak m c = Equation.up k) ∧ (∃ v, Av m c = Equation.up v) ∧ ∃ d, Ac m c = Equation.up d) :
    θ_run defs (onTc (τ := τ) (main (F := Ideal))) ⟨m, fun _ => 0, ρ⟩ (fun r => ∀ c : Dev nD,
      r.2.mem ((c.tc : Thread nD τ).loc main_v55_0) = ReferenceIdeal.Arrays.gradQ (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v55_1) = ReferenceIdeal.Arrays.gradK (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v55_2) = ReferenceIdeal.Arrays.gradV (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r k c => ?_) (run_results m ρ)
  obtain ⟨⟨q, hq⟩, ⟨l, hk⟩, ⟨v, hv⟩, ⟨d, hd⟩⟩ := h c
  obtain ⟨k0, k1, k2⟩ := results_eq m c q l v d hq hk hv hd
  exact ⟨(k c).1.trans k0, (k c).2.1.trans k1, (k c).2.2.1.trans k2, (k c).2.2.2⟩

end Cert.KernelIdeal.Body

end
-- ==== Proof.Finite.lean ====
/- The precondition, element by element: each argument is an array of real numbers. -/
module

public import proofs.«01_k».proof.Pre_finite
public import proofs.«01_k».proof.Proof.Equation
public import Idealize.ShloMosaic.Lib.ReduceAll
public import Idealize.ShloMosaic.Lib.Pointwise

@[expose] public section

noncomputable section

namespace Cert.Finite

open Idealize.ShloMosaic

/-- The side conditions of the precondition's operations. -/
theorem facts : Cert.Pre_finite.Facts where
  bcast_S_S4096x4x96 := by decide
  reducesTo_S4096x4x96_S_d0_1_2 := by decide
  h_S_ := by decide
  bcast_S_S4096x4x64 := by decide
  reducesTo_S4096x4x64_S_d0_1_2 := by decide

theorem ofBits_top : Ideal.ofBits .f32 0x7F800000#32 = ⊤ := by
  simp [Ideal.ofBits, Ideal.ieee]

/-- A number whose absolute value lies below +∞ is real. -/
theorem real_of (x : EReal) (h : Ideal.cmp .olt (max x (-x)) (Ideal.ofBits .f32 0x7F800000#32) = 1#1) : ∃ r : ℝ, x = (r : EReal) := by
  have h' : max x (-x) < ⊤ := by rw [← ofBits_top]; exact (Ideal.cmp_olt_eq_one _ _).mp h
  have h1 : x ≠ ⊤ := ne_of_lt (lt_of_le_of_lt (le_max_left _ _) h')
  have h2 : x ≠ ⊥ := fun e => by
    have := lt_of_le_of_lt (le_max_right x (-x)) h'
    rw [e, EReal.neg_bot] at this
    exact lt_irrefl _ this
  exact ⟨x.toReal, (EReal.coe_toReal h1 h2).symm⟩

theorem and_left (x y : BitVec 1) (h : IntOp.andi x y = 1#1) : x = 1#1 ∧ y = 1#1 := by
  revert x y; decide

instance : Subsingleton Cert.Pre_finite.S_.Idx := ⟨fun a b => funext fun d => Fin.elim0 d⟩

/-- One argument of the precondition. -/
theorem all_real {s : Shape} {axes : List (Fin s.rank)} (x : FVec Idealize.ShloMosaic.Ideal s .f32) (dims : Fin 0 → Fin s.rank)
    (hb : Cert.Pre_finite.S_.BroadcastsInDim s dims) (hr : s.ReducesTo axes Cert.Pre_finite.S_) (hu : 0 < Cert.Pre_finite.S_.numel)
    (j : Cert.Pre_finite.S_.Idx)
    (e : Host.reduce IntOp.andi (cmpf .olt (Host.absf x) (broadcastInDim s dims hb (constant Cert.Pre_finite.S_ .f32 0x7F800000#32)))
      (constantI Cert.Pre_finite.S_ 1 1#1) hr hu j = 1#1) (i : s.Idx) : ∃ r : ℝ, x i = (r : EReal) :=
  real_of (x i) (Host.reduce_andi_all _ _ hr hu j e i)

theorem fn_real [Cert.Pre_finite.Facts] (a b : FVec Idealize.ShloMosaic.Ideal Cert.Pre_finite.S4096x4x96 .f32) (c d : FVec Idealize.ShloMosaic.Ideal Cert.Pre_finite.S4096x4x64 .f32)
    (h : Cert.Pre_finite.fn a b c d = fun _ => 1#1) :
    (∀ i, ∃ r : ℝ, a i = (r : EReal)) ∧ (∀ i, ∃ r : ℝ, b i = (r : EReal)) ∧ (∀ i, ∃ r : ℝ, c i = (r : EReal)) ∧ ∀ i, ∃ r : ℝ, d i = (r : EReal) := by
  have h0 := congrFun h ix0
  dsimp only [Cert.Pre_finite.fn, Cert.Pre_finite.fn_part1] at h0
  obtain ⟨hab, hcd⟩ := and_left _ _ h0
  obtain ⟨ha, hb⟩ := and_left _ _ hab
  obtain ⟨hc, hd⟩ := and_left _ _ hcd
  exact ⟨all_real _ _ _ _ _ _ ha, all_real _ _ _ _ _ _ hb, all_real _ _ _ _ _ _ hc, all_real _ _ _ _ _ _ hd⟩

/-- An array of real numbers, by head. -/
theorem byHead_up {n : ℕ} (x : (⟨3, ![4096, 4, n]⟩ : Shape).Idx → EReal) (h : ∀ i, ∃ r : ℝ, x i = (r : EReal)) :
    ∃ y : Fin 4 → Fin 4096 → Fin n → ℝ, Softmax.byHead x = Equation.up y := by
  choose y hy using h
  exact ⟨fun h i d => y (ix3 i h d), funext fun h => funext fun i => funext fun d => hy _⟩

end Cert.Finite

end
-- ==== Proof.RefNames.lean ====
/- The reference's printed results are the named arrays. -/
module

public import proofs.«01_k».proof.Proof.Gen.ReferenceIdeal.Run
public import proofs.«01_k».proof.Proof.Softmax
public import Idealize.ShloMosaic.Lib.StableHlo.ReadAt
public import Idealize.ShloMosaic.Lib.Pointwise
public import proofs.«01_k».proof.Proof.RefArrays

@[expose] public section

set_option maxRecDepth 16384

noncomputable section

namespace Cert.ReferenceIdeal.Arrays

open Idealize.ShloMosaic Idealize.ShloMosaic.TcCoe Idealize.ShloMosaic.Tactic
open Cert.ReferenceIdeal Cert.ReferenceIdeal.Gen
open Cert.Softmax (byHead)

variable (m : (ℓ : Loc nD τ sig) → Buf (Elt Ideal) ℓ)
theorem res0 (c : Dev nD) : Value.res_out0 m c = gradQ (m ((c.tc : Thread nD τ).loc main_arg0)) (m ((c.tc : Thread nD τ).loc main_arg1)) (m ((c.tc : Thread nD τ).loc main_arg2)) (m ((c.tc : Thread nD τ).loc main_arg3)) := rfl
theorem res1 (c : Dev nD) : Value.res_out1 m c = gradK (m ((c.tc : Thread nD τ).loc main_arg0)) (m ((c.tc : Thread nD τ).loc main_arg1)) (m ((c.tc : Thread nD τ).loc main_arg2)) (m ((c.tc : Thread nD τ).loc main_arg3)) := rfl
theorem res2 (c : Dev nD) : Value.res_out2 m c = gradV (m ((c.tc : Thread nD τ).loc main_arg0)) (m ((c.tc : Thread nD τ).loc main_arg1)) (m ((c.tc : Thread nD τ).loc main_arg3)) := rfl

end Cert.ReferenceIdeal.Arrays

end
-- ==== Proof.lean ====
/- The proof of the certificate's claims: for the attention's gradient and for the products with the weights, the runs of
   the kernel, of its idealisation and of the reference, and the equality of their results. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.AsPrinted
public import proofs.«01_k».proof.Proof.Gen.UpDx
public import proofs.«01_k».proof.Proof.Gen.UpDx.Frame
public import proofs.«01_k».proof.Proof.Gen.UpDxIdeal
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDw
public import proofs.«01_k».proof.Proof.Gen.UpDw.Frame
public import proofs.«01_k».proof.Proof.Gen.UpDwIdeal
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.DownDx
public import proofs.«01_k».proof.Proof.Gen.DownDx.Frame
public import proofs.«01_k».proof.Proof.Gen.DownDxIdeal
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDw
public import proofs.«01_k».proof.Proof.Gen.DownDw.Frame
public import proofs.«01_k».proof.Proof.Gen.DownDwIdeal
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.InDx
public import proofs.«01_k».proof.Proof.Gen.InDx.Frame
public import proofs.«01_k».proof.Proof.Gen.InDxIdeal
public import proofs.«01_k».proof.Proof.Gen.InDxIdeal.Value
public import proofs.«01_k».proof.Proof.Gen.InDxRefIdeal
public import proofs.«01_k».proof.Proof.Gen.InDxRefIdeal.Run
public import proofs.«01_k».proof.Proof.Gen.InDw
public import proofs.«01_k».proof.Proof.Gen.InDw.Frame
public import proofs.«01_k».proof.Proof.Gen.InDwIdeal
public import proofs.«01_k».proof.Proof.Gen.InDwIdeal.Value
public import proofs.«01_k».proof.Proof.Gen.InDwRefIdeal
public import proofs.«01_k».proof.Proof.Gen.InDwRefIdeal.Run
public import proofs.«01_k».proof.Proof.Gen.OutDx
public import proofs.«01_k».proof.Proof.Gen.OutDx.Frame
public import proofs.«01_k».proof.Proof.Gen.OutDxIdeal
public import proofs.«01_k».proof.Proof.Gen.OutDxIdeal.Value
public import proofs.«01_k».proof.Proof.Gen.OutDxRefIdeal
public import proofs.«01_k».proof.Proof.Gen.OutDxRefIdeal.Run
public import proofs.«01_k».proof.Proof.Gen.OutDw
public import proofs.«01_k».proof.Proof.Gen.OutDw.Frame
public import proofs.«01_k».proof.Proof.Gen.OutDwIdeal
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.Up
public import proofs.«01_k».proof.Proof.Gen.Up.Frame
public import proofs.«01_k».proof.Proof.Gen.UpIdeal
public import proofs.«01_k».proof.Proof.Gen.UpIdeal.Value
public import proofs.«01_k».proof.Proof.Gen.UpRefIdeal
public import proofs.«01_k».proof.Proof.Gen.UpRefIdeal.Run
public import proofs.«01_k».proof.Proof.Gen.Down
public import proofs.«01_k».proof.Proof.Gen.Down.Frame
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Run
public import proofs.«01_k».proof.Proof.Gen.In
public import proofs.«01_k».proof.Proof.Gen.In.Frame
public import proofs.«01_k».proof.Proof.Gen.InIdeal
public import proofs.«01_k».proof.Proof.Gen.InIdeal.Value
public import proofs.«01_k».proof.Proof.Gen.InRefIdeal
public import proofs.«01_k».proof.Proof.Gen.InRefIdeal.Run
public import proofs.«01_k».proof.Proof.Gen.Out
public import proofs.«01_k».proof.Proof.Gen.Out.Frame
public import proofs.«01_k».proof.Proof.Gen.OutIdeal
public import proofs.«01_k».proof.Proof.Gen.OutIdeal.Value
public import proofs.«01_k».proof.Proof.Gen.OutRefIdeal
public import proofs.«01_k».proof.Proof.Gen.OutRefIdeal.Run
public import proofs.«01_k».proof.Proof.Up
public import proofs.«01_k».proof.Proof.UpDx
public import proofs.«01_k».proof.Proof.UpDw
public import proofs.«01_k».proof.Proof.Down
public import proofs.«01_k».proof.Proof.DownDx
public import proofs.«01_k».proof.Proof.DownDw
public import proofs.«01_k».proof.Proof.In
public import proofs.«01_k».proof.Proof.InDx
public import proofs.«01_k».proof.Proof.InDw
public import proofs.«01_k».proof.Proof.Out
public import proofs.«01_k».proof.Proof.OutDx
public import proofs.«01_k».proof.Proof.OutDw
public import proofs.«01_k».proof.Proof.Result
public import proofs.«01_k».proof.Proof.Finite
public import proofs.«01_k».proof.Proof.RefNames
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem reference_frame : quiescent_ReferenceIdeal (hReferenceIdeal := Cert.ReferenceIdeal.Gen.facts) := by
  intro m ρ _
  exact (θ_run _ _ _).mono (fun r h => ⟨fun c => (h c).2.2.2, sem_eq_zero_of_no_sems (by decide) _⟩) (Cert.ReferenceIdeal.Value.run m ρ)

/-- The reference's run, with its results as the named arrays of the arguments. -/
theorem reference_run (m' : (ℓ : Loc Cert.ReferenceIdeal.nD Cert.ReferenceIdeal.τ Cert.ReferenceIdeal.sig) → Buf (Elt Ideal) ℓ) (ρ' : Dev Cert.ReferenceIdeal.nD → PrngReg)
    (x0 x1 : Dev Cert.ReferenceIdeal.nD → FVec Ideal Cert.ReferenceIdeal.S4096x4x96 .f32) (x2 x3 : Dev Cert.ReferenceIdeal.nD → FVec Ideal Cert.ReferenceIdeal.S4096x4x64 .f32)
    (h0 : ∀ c : Dev Cert.ReferenceIdeal.nD, m' ((c.tc : Thread Cert.ReferenceIdeal.nD Cert.ReferenceIdeal.τ).loc Cert.ReferenceIdeal.main_arg0) = x0 c)
    (h1 : ∀ c : Dev Cert.ReferenceIdeal.nD, m' ((c.tc : Thread Cert.ReferenceIdeal.nD Cert.ReferenceIdeal.τ).loc Cert.ReferenceIdeal.main_arg1) = x1 c)
    (h2 : ∀ c : Dev Cert.ReferenceIdeal.nD, m' ((c.tc : Thread Cert.ReferenceIdeal.nD Cert.ReferenceIdeal.τ).loc Cert.ReferenceIdeal.main_arg2) = x2 c)
    (h3 : ∀ c : Dev Cert.ReferenceIdeal.nD, m' ((c.tc : Thread Cert.ReferenceIdeal.nD Cert.ReferenceIdeal.τ).loc Cert.ReferenceIdeal.main_arg3) = x3 c) :
    θ_run (Cert.ReferenceIdeal.defs (F := Ideal)) (onTc (τ := Cert.ReferenceIdeal.τ) (Cert.ReferenceIdeal.main (F := Ideal))) ⟨m', fun _ => 0, ρ'⟩ (fun r => ∀ c : Dev Cert.ReferenceIdeal.nD,
      r.2.mem ((c.tc : Thread Cert.ReferenceIdeal.nD Cert.ReferenceIdeal.τ).loc Cert.ReferenceIdeal.main_v64) = Cert.ReferenceIdeal.Arrays.gradQ (x0 c) (x1 c) (x2 c) (x3 c)
      ∧ r.2.mem ((c.tc : Thread Cert.ReferenceIdeal.nD Cert.ReferenceIdeal.τ).loc Cert.ReferenceIdeal.main_v66) = Cert.ReferenceIdeal.Arrays.gradK (x0 c) (x1 c) (x2 c) (x3 c)
      ∧ r.2.mem ((c.tc : Thread Cert.ReferenceIdeal.nD Cert.ReferenceIdeal.τ).loc Cert.ReferenceIdeal.main_v67) = Cert.ReferenceIdeal.Arrays.gradV (x0 c) (x1 c) (x3 c)
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) := by
  refine (θ_run _ _ _).mono (fun r h c => ?_) (Cert.ReferenceIdeal.Value.run m' ρ')
  obtain ⟨k0, k1, k2, hr⟩ := h c
  refine ⟨k0.trans ((Cert.ReferenceIdeal.Arrays.res0 m' c).trans ?_), k1.trans ((Cert.ReferenceIdeal.Arrays.res1 m' c).trans ?_),
    k2.trans ((Cert.ReferenceIdeal.Arrays.res2 m' c).trans ?_), hr⟩
  · rw [h0 c, h1 c, h2 c, h3 c]
  · rw [h0 c, h1 c, h2 c, h3 c]
  · rw [h0 c, h1 c, h3 c]

theorem algebraic : algebraic_KernelIdeal_ReferenceIdeal_pre_finite (hKernelIdeal := Cert.KernelIdeal.Gen.facts)
    (hReferenceIdeal := Cert.ReferenceIdeal.Gen.facts) (hPre_finite := Cert.Finite.facts) := by
  intro m ρ m' ρ' hpre hargs
  have hreal : ∀ c, (∃ q, Cert.KernelIdeal.Body.Aq m c = Equation.up q) ∧ (∃ k, Cert.KernelIdeal.Body.Ak m c = Equation.up k)
      ∧ (∃ v, Cert.KernelIdeal.Body.Av m c = Equation.up v) ∧ ∃ d, Cert.KernelIdeal.Body.Ac m c = Equation.up d := fun c => by
    obtain ⟨r0, r1, r2, r3⟩ := @Cert.Finite.fn_real Cert.Finite.facts _ _ _ _ (hpre c)
    exact ⟨Cert.Finite.byHead_up _ r0, Cert.Finite.byHead_up _ r1, Cert.Finite.byHead_up _ r2, Cert.Finite.byHead_up _ r3⟩
  exact ⟨_, _, _, Cert.KernelIdeal.Body.run_grads m ρ hreal,
    reference_run m' ρ' _ _ _ _ (fun c => (hargs c).1) (fun c => (hargs c).2.1) (fun c => (hargs c).2.2.1) (fun c => (hargs c).2.2.2)⟩

theorem claim : Cert.Claim := ⟨Cert.Kernel.Gen.facts, Cert.KernelIdeal.Gen.facts, Cert.ReferenceIdeal.Gen.facts,
  Cert.Up.Gen.facts, Cert.UpIdeal.Gen.facts, Cert.UpRefIdeal.Gen.facts, Cert.UpDx.Gen.facts, Cert.UpDxIdeal.Gen.facts, Cert.UpDxRefIdeal.Gen.facts,
  Cert.UpDw.Gen.facts, Cert.UpDwIdeal.Gen.facts, Cert.UpDwRefIdeal.Gen.facts, Cert.Down.Gen.facts, Cert.DownIdeal.Gen.facts, Cert.DownRefIdeal.Gen.facts,
  Cert.DownDx.Gen.facts, Cert.DownDxIdeal.Gen.facts, Cert.DownDxRefIdeal.Gen.facts, Cert.DownDw.Gen.facts, Cert.DownDwIdeal.Gen.facts, Cert.DownDwRefIdeal.Gen.facts,
  Cert.In.Gen.facts, Cert.InIdeal.Gen.facts, Cert.InRefIdeal.Gen.facts, Cert.InDx.Gen.facts, Cert.InDxIdeal.Gen.facts, Cert.InDxRefIdeal.Gen.facts,
  Cert.InDw.Gen.facts, Cert.InDwIdeal.Gen.facts, Cert.InDwRefIdeal.Gen.facts, Cert.Out.Gen.facts, Cert.OutIdeal.Gen.facts, Cert.OutRefIdeal.Gen.facts,
  Cert.OutDx.Gen.facts, Cert.OutDxIdeal.Gen.facts, Cert.OutDxRefIdeal.Gen.facts, Cert.OutDw.Gen.facts, Cert.OutDwIdeal.Gen.facts, Cert.OutDwRefIdeal.Gen.facts,
  Cert.Finite.facts,
  fun m ρ _ => Cert.Kernel.Same.frame m ρ, fun m ρ _ => Cert.KernelIdeal.Body.frame m ρ, fun m ρ _ => Cert.KernelIdeal.Body.frame m ρ,
  reference_frame, fun m ρ _ => reference_frame m ρ trivial,
  fun m ρ _ => Cert.Up.Gen.frame m ρ, fun m ρ _ => Cert.UpIdeal.Gen.frame m ρ, Cert.UpIdeal.Product.reference_frame,
  fun m ρ _ => Cert.UpDx.Gen.frame m ρ, fun m ρ _ => Cert.UpDxIdeal.Gen.frame m ρ, Cert.UpDxIdeal.Product.reference_frame,
  fun m ρ _ => Cert.UpDw.Gen.frame m ρ, fun m ρ _ => Cert.UpDwIdeal.Gen.frame m ρ, Cert.UpDwIdeal.Product.reference_frame,
  fun m ρ _ => Cert.Down.Gen.frame m ρ, fun m ρ _ => Cert.DownIdeal.Gen.frame m ρ, Cert.DownIdeal.Product.reference_frame,
  fun m ρ _ => Cert.DownDx.Gen.frame m ρ, fun m ρ _ => Cert.DownDxIdeal.Gen.frame m ρ, Cert.DownDxIdeal.Product.reference_frame,
  fun m ρ _ => Cert.DownDw.Gen.frame m ρ, fun m ρ _ => Cert.DownDwIdeal.Gen.frame m ρ, Cert.DownDwIdeal.Product.reference_frame,
  fun m ρ _ => Cert.In.Gen.frame m ρ, fun m ρ _ => Cert.InIdeal.Gen.frame m ρ, Cert.InIdeal.Product.reference_frame,
  fun m ρ _ => Cert.InDx.Gen.frame m ρ, fun m ρ _ => Cert.InDxIdeal.Gen.frame m ρ, Cert.InDxIdeal.Product.reference_frame,
  fun m ρ _ => Cert.InDw.Gen.frame m ρ, fun m ρ _ => Cert.InDwIdeal.Gen.frame m ρ, Cert.InDwIdeal.Product.reference_frame,
  fun m ρ _ => Cert.Out.Gen.frame m ρ, fun m ρ _ => Cert.OutIdeal.Gen.frame m ρ, Cert.OutIdeal.Product.reference_frame,
  fun m ρ _ => Cert.OutDx.Gen.frame m ρ, fun m ρ _ => Cert.OutDxIdeal.Gen.frame m ρ, Cert.OutDxIdeal.Product.reference_frame,
  fun m ρ _ => Cert.OutDw.Gen.frame m ρ, fun m ρ _ => Cert.OutDwIdeal.Gen.frame m ρ, Cert.OutDwIdeal.Product.reference_frame,
  trivial, algebraic,
  trivial, Cert.UpIdeal.Product.algebraic, trivial, Cert.UpDxIdeal.Product.algebraic, trivial, Cert.UpDwIdeal.Product.algebraic,
  trivial, Cert.DownIdeal.Product.algebraic, trivial, Cert.DownDxIdeal.Product.algebraic, trivial, Cert.DownDwIdeal.Product.algebraic,
  trivial, Cert.InIdeal.Product.algebraic, trivial, Cert.InDxIdeal.Product.algebraic, trivial, Cert.InDwIdeal.Product.algebraic,
  trivial, Cert.OutIdeal.Product.algebraic, trivial, Cert.OutDxIdeal.Product.algebraic, trivial, Cert.OutDwIdeal.Product.algebraic⟩

end Cert.Proof

end
